-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_ReferenceIdeal_on_inside [hKernelIdeal : Cert.KernelIdeal.Facts] [hReferenceIdeal : Cert.ReferenceIdeal.Facts] [hOn_inside : Cert.On_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 2048]⟩ : Shape).Idx, (Layout.block ⟨2, ![1024, 2048]⟩ ⟨2, ![4096, 2048]⟩ 0 4 c ((Cert.On_inside.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![1024, 2048]⟩ : Shape).Idx → _) i = 1#1 → r.2.mem ((c.tc : Thread Cert.KernelIdeal.nD Cert.KernelIdeal.τ).loc Cert.KernelIdeal.main_v1) i = (Layout.block ⟨2, ![1024, 2048]⟩ ⟨2, ![4096, 2048]⟩ 0 4 c v0 : (⟨2, ![1024, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_inside.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v9) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_inside : Cert.On_inside.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_ReferenceIdeal_on_inside (hKernelIdeal := hKernelIdeal) (hReferenceIdeal := hReferenceIdeal) (hOn_inside := hOn_inside)
    ∧ algebraic_KernelIdeal_UnclippedIdeal (hKernelIdeal := hKernelIdeal) (hUnclippedIdeal := hUnclippedIdeal)
-- ==== On_inside.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  main_v9
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S2 : Shape := ⟨1, ![2]⟩
abbrev S3 : Shape := ⟨1, ![3]⟩
abbrev S4 : Shape := ⟨1, ![4]⟩
abbrev S_ : Shape := ⟨0, ![]⟩
abbrev S1x1024x2048 : Shape := ⟨3, ![1, 1024, 2048]⟩
abbrev S1024x1024 : Shape := ⟨2, ![1024, 1024]⟩
abbrev S1x1024x1024 : Shape := ⟨3, ![1, 1024, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S4x1024x1024, .fp8e4m3⟩
  | .local _ .vmem, ⟨3, _⟩ => ⟨S4x1024x1024, .fp8e4m3⟩
  | .local _ .vmem, ⟨4, _⟩ => ⟨S2x1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v36 : BitVec 32 := Scalar.muli v2 c1024_i32
  let c0_i32_22 : BitVec 32 := 0#32
  ![v36.toNat, 0]
def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v43 : BitVec 32 := Scalar.addi v2 c1_i32_23
  let c4_i32_24 : BitVec 32 := 4#32
  let c0_i32_25 : BitVec 32 := 0#32
  let v44 : BitVec 1 := Scalar.cmpi .eq c4_i32_24 c0_i32_25
  let c1_i32_26 : BitVec 32 := 1#32
  let v45 : BitVec 32 := Scalar.select v44 c1_i32_26 c4_i32_24
  let v46 : BitVec 32 := Scalar.remsi v43 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c1_i32_31 : BitVec 32 := 1#32
  let v54 : BitVec 32 := Scalar.muli v53 c1_i32_31
  let v55 : BitVec 32 := Scalar.addi c0_i32_32 v54
  v55.toNat
def k0_dev2 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v56 : BitVec 32 := Scalar.addi v2 c2_i32_33
  let c4_i32_34 : BitVec 32 := 4#32
  let c0_i32_35 : BitVec 32 := 0#32
  let v57 : BitVec 1 := Scalar.cmpi .eq c4_i32_34 c0_i32_35
  let c1_i32_36 : BitVec 32 := 1#32
  let v58 : BitVec 32 := Scalar.select v57 c1_i32_36 c4_i32_34
  let v59 : BitVec 32 := Scalar.remsi v56 v58
  let c0_i32_38 : BitVec 32 := 0#32
  let v61 : BitVec 1 := Scalar.cmpi .slt v59 c0_i32_38
  let c0_i32_39 : BitVec 32 := 0#32
  let v62 : BitVec 1 := Scalar.cmpi .slt v58 c0_i32_39
  let v63 : BitVec 1 := Scalar.xori v61 v62
  let c0_i32_37 : BitVec 32 := 0#32
  let v60 : BitVec 1 := Scalar.cmpi .ne v59 c0_i32_37
  let v64 : BitVec 1 := Scalar.andi v63 v60
  let v65 : BitVec 32 := Scalar.addi v59 v58
  let v66 : BitVec 32 := Scalar.select v64 v65 v59
  let c1_i32_41 : BitVec 32 := 1#32
  let v67 : BitVec 32 := Scalar.muli v66 c1_i32_41
  let v68 : BitVec 32 := Scalar.addi c0_i32_42 v67
  v68.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v69 : BitVec 32 := Scalar.addi v2 c3_i32_43
  let c4_i32_44 : BitVec 32 := 4#32
  let c0_i32_45 : BitVec 32 := 0#32
  let v70 : BitVec 1 := Scalar.cmpi .eq c4_i32_44 c0_i32_45
  let c1_i32_46 : BitVec 32 := 1#32
  let v71 : BitVec 32 := Scalar.select v70 c1_i32_46 c4_i32_44
  let v72 : BitVec 32 := Scalar.remsi v69 v71
  let c0_i32_48 : BitVec 32 := 0#32
  let v74 : BitVec 1 := Scalar.cmpi .slt v72 c0_i32_48
  let c0_i32_49 : BitVec 32 := 0#32
  let v75 : BitVec 1 := Scalar.cmpi .slt v71 c0_i32_49
  let v76 : BitVec 1 := Scalar.xori v74 v75
  let c0_i32_47 : BitVec 32 := 0#32
  let v73 : BitVec 1 := Scalar.cmpi .ne v72 c0_i32_47
  let v77 : BitVec 1 := Scalar.andi v76 v73
  let v78 : BitVec 32 := Scalar.addi v72 v71
  let v79 : BitVec 32 := Scalar.select v77 v78 v72
  let c1_i32_51 : BitVec 32 := 1#32
  let v80 : BitVec 32 := Scalar.muli v79 c1_i32_51
  let v81 : BitVec 32 := Scalar.addi c0_i32_52 v80
  v81.toNat
def k0_off2 (d0 : Dev nD) (c1_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v82 : BitVec 32 := Scalar.addi v2 c1_i32_54
  let c4_i32_55 : BitVec 32 := 4#32
  let c0_i32_56 : BitVec 32 := 0#32
  let v83 : BitVec 1 := Scalar.cmpi .eq c4_i32_55 c0_i32_56
  let c1_i32_57 : BitVec 32 := 1#32
  let v84 : BitVec 32 := Scalar.select v83 c1_i32_57 c4_i32_55
  let v85 : BitVec 32 := Scalar.remsi v82 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c1024_i32_61 : BitVec 32 := 1024#32
  let v93 : BitVec 32 := Scalar.muli v92 c1024_i32_61
  let v94 : Index := Scalar.indexCast v93
  let c0 : Index := 0#32
  ![v94.toNat, 0]
def k0_off3 (d0 : Dev nD) (c1_i32_54 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v82 : BitVec 32 := Scalar.addi v2 c1_i32_54
  let c4_i32_55 : BitVec 32 := 4#32
  let c0_i32_56 : BitVec 32 := 0#32
  let v83 : BitVec 1 := Scalar.cmpi .eq c4_i32_55 c0_i32_56
  let c1_i32_57 : BitVec 32 := 1#32
  let v84 : BitVec 32 := Scalar.select v83 c1_i32_57 c4_i32_55
  let v85 : BitVec 32 := Scalar.remsi v82 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let v98 : Index := Scalar.indexCast v92
  let c0_62 : Index := 0#32
  let c0_63 : Index := 0#32
  ![v98.toNat, 0, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_67 : BitVec 32 := 0#32
  let c0_i32_68 : BitVec 32 := 0#32
  ![v2.toNat, 0, 0]
def k0_off6 (d0 : Dev nD) (c1_i32_54 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v82 : BitVec 32 := Scalar.addi v2 c1_i32_54
  let c4_i32_55 : BitVec 32 := 4#32
  let c0_i32_56 : BitVec 32 := 0#32
  let v83 : BitVec 1 := Scalar.cmpi .eq c4_i32_55 c0_i32_56
  let c1_i32_57 : BitVec 32 := 1#32
  let v84 : BitVec 32 := Scalar.select v83 c1_i32_57 c4_i32_55
  let v85 : BitVec 32 := Scalar.remsi v82 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_69 : BitVec 32 := 0#32
  let c0_i32_70 : BitVec 32 := 0#32
  ![v92.toNat, 0, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v82 : BitVec 32 := Scalar.addi v2 c1_i32_54
  let c4_i32_55 : BitVec 32 := 4#32
  let c0_i32_56 : BitVec 32 := 0#32
  let v83 : BitVec 1 := Scalar.cmpi .eq c4_i32_55 c0_i32_56
  let c1_i32_57 : BitVec 32 := 1#32
  let v84 : BitVec 32 := Scalar.select v83 c1_i32_57 c4_i32_55
  let v85 : BitVec 32 := Scalar.remsi v82 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c1_i32_65 : BitVec 32 := 1#32
  let v102 : BitVec 32 := Scalar.muli v92 c1_i32_65
  let v103 : BitVec 32 := Scalar.addi c0_i32_66 v102
  v103.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v112 : BitVec 32 := Scalar.addi v2 c3_i32_71
  let c4_i32_72 : BitVec 32 := 4#32
  let c0_i32_73 : BitVec 32 := 0#32
  let v113 : BitVec 1 := Scalar.cmpi .eq c4_i32_72 c0_i32_73
  let c1_i32_74 : BitVec 32 := 1#32
  let v114 : BitVec 32 := Scalar.select v113 c1_i32_74 c4_i32_72
  let v115 : BitVec 32 := Scalar.remsi v112 v114
  let c0_i32_76 : BitVec 32 := 0#32
  let v117 : BitVec 1 := Scalar.cmpi .slt v115 c0_i32_76
  let c0_i32_77 : BitVec 32 := 0#32
  let v118 : BitVec 1 := Scalar.cmpi .slt v114 c0_i32_77
  let v119 : BitVec 1 := Scalar.xori v117 v118
  let c0_i32_75 : BitVec 32 := 0#32
  let v116 : BitVec 1 := Scalar.cmpi .ne v115 c0_i32_75
  let v120 : BitVec 1 := Scalar.andi v119 v116
  let v121 : BitVec 32 := Scalar.addi v115 v114
  let v122 : BitVec 32 := Scalar.select v120 v121 v115
  let c1_i32_83 : BitVec 32 := 1#32
  let v132 : BitVec 32 := Scalar.muli v122 c1_i32_83
  let v133 : BitVec 32 := Scalar.addi c0_i32_84 v132
  v133.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_89 : BitVec 32 := 2#32
  let v142 : BitVec 32 := Scalar.addi v2 c2_i32_89
  let c4_i32_90 : BitVec 32 := 4#32
  let c0_i32_91 : BitVec 32 := 0#32
  let v143 : BitVec 1 := Scalar.cmpi .eq c4_i32_90 c0_i32_91
  let c1_i32_92 : BitVec 32 := 1#32
  let v144 : BitVec 32 := Scalar.select v143 c1_i32_92 c4_i32_90
  let v145 : BitVec 32 := Scalar.remsi v142 v144
  let c0_i32_94 : BitVec 32 := 0#32
  let v147 : BitVec 1 := Scalar.cmpi .slt v145 c0_i32_94
  let c0_i32_95 : BitVec 32 := 0#32
  let v148 : BitVec 1 := Scalar.cmpi .slt v144 c0_i32_95
  let v149 : BitVec 1 := Scalar.xori v147 v148
  let c0_i32_93 : BitVec 32 := 0#32
  let v146 : BitVec 1 := Scalar.cmpi .ne v145 c0_i32_93
  let v150 : BitVec 1 := Scalar.andi v149 v146
  let v151 : BitVec 32 := Scalar.addi v145 v144
  let v152 : BitVec 32 := Scalar.select v150 v151 v145
  let c1_i32_101 : BitVec 32 := 1#32
  let v162 : BitVec 32 := Scalar.muli v152 c1_i32_101
  let v163 : BitVec 32 := Scalar.addi c0_i32_102 v162
  v163.toNat
def k0_off7 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_107 : BitVec 32 := 1024#32
  let v172 : BitVec 32 := Scalar.muli v13 c1024_i32_107
  let c0_i32_112 : BitVec 32 := 0#32
  ![v172.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_113 : BitVec 32 := 1024#32
  let v178 : BitVec 32 := Scalar.muli v2 c1024_i32_113
  let v179 : Index := Scalar.indexCast v178
  let c0_114 : Index := 0#32
  ![v179.toNat, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v183 : Index := Scalar.indexCast v2
  let c0_115 : Index := 0#32
  let c0_116 : Index := 0#32
  ![v183.toNat, 0, 0]
def k0_off10 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.KernelIdealCells.lean ====
/-
# The protocol of the kernel: its cells, what each landing hands over, its schedule

Four devices. Device `c` holds rows of the product `x · w` as follows: its `x` is the column block `c` of the whole
left factor, its result the row block `c` of the product. It rounds the row blocks of its `x` into the four slots of
the buffer `x8`, sends slot `j` to device `j` (which lands it in slot `c` of its buffer `recv`), and multiplies each
slot it receives by the matching row block of `w`, which it copies itself from memory into one of two slots.

Semaphores of a device `c` (`sh k c` is the device `k` places after it):
* the barrier semaphore: each of the other three devices signals it once; `c` waits for 3. Device `sh d c`'s signal
  hands `c` the right to write slot `c` of that device's buffer `recv`;
* two semaphores of the copies of `w`, two rounds each: `c` itself copies onto them and waits for them; a round hands
  back the row block of `w` read and the slot holding it;
* three send semaphores: raised when a slot of `x8` has been read out; hands the slot back;
* four receive semaphores, one per sending device (its own stays idle): raised by the landing of the sender's slot;
  hands over the slot of `recv` with the rounded row block `c` of the sender's `x` in it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's own resource: rounds whose duties are named by `Fin 4`. -/
abbrev UB : Type := URounds (GSem nD τ sig) (Fin 4)
/-- The pipeline library's resource beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices -/

set_option backward.proofsInPublic true in
/-- The device `k` places after `c`, around the four. -/
def sh (k : Fin 4) (c : Dev nD) : Dev nD := ⟨(c.val + k.val) % 4, Nat.mod_lt _ (by decide)⟩

theorem sh_zero (c : Dev nD) : sh 0 c = c := by revert c; decide
theorem sh_31 (c : Dev nD) : sh 3 (sh 1 c) = c := by revert c; decide
theorem sh_13 (c : Dev nD) : sh 1 (sh 3 c) = c := by revert c; decide
theorem sh_22 (c : Dev nD) : sh 2 (sh 2 c) = c := by revert c; decide
/-- Shifting back undoes shifting. -/
theorem sh_neg (k : Fin 4) (c : Dev nD) : sh (-k) (sh k c) = c := by revert k c; decide
theorem sh_neg' (k : Fin 4) (c : Dev nD) : sh k (sh (-k) c) = c := by revert k c; decide
theorem sh_inj (c : Dev nD) : Function.Injective fun k : Fin 4 => sh k c := by revert c; decide

/-- The shift by `k` as a permutation of the devices. -/
def shEquiv (k : Fin 4) : Dev nD ≃ Dev nD := ⟨sh k, sh (-k), sh_neg k, sh_neg' k⟩

/-! ## The program's device numbers and offsets in closed form -/

theorem dev1_eq (c : Dev nD) : (⟨k0_dev1 c, k0_dev1_lt c⟩ : Dev nD) = sh 1 c := by revert c; decide +kernel
theorem dev2_eq (c : Dev nD) : (⟨k0_dev2 c, k0_dev2_lt c⟩ : Dev nD) = sh 2 c := by revert c; decide +kernel
theorem dev3_eq (c : Dev nD) : (⟨k0_dev3 c, k0_dev3_lt c⟩ : Dev nD) = sh 3 c := by revert c; decide +kernel
theorem dev4_eq (c : Dev nD) : (⟨k0_dev4 c, k0_dev4_lt c⟩ : Dev nD) = sh 1 c := by revert c; decide +kernel
theorem dev5_eq (c : Dev nD) : (⟨k0_dev5 c, k0_dev5_lt c⟩ : Dev nD) = sh 3 c := by revert c; decide +kernel
theorem dev6_eq (c : Dev nD) : (⟨k0_dev6 c, k0_dev6_lt c⟩ : Dev nD) = sh 2 c := by revert c; decide +kernel

theorem off1_eq (c : Dev nD) : k0_off1 c = ![1024 * c.val, 0] := k0_off1_eq c
theorem off2_1 (c : Dev nD) : k0_off2 c 1#32 = ![1024 * (sh 1 c).val, 0] := by revert c; decide +kernel
theorem off2_2 (c : Dev nD) : k0_off2 c 2#32 = ![1024 * (sh 2 c).val, 0] := by revert c; decide +kernel
theorem off2_3 (c : Dev nD) : k0_off2 c 3#32 = ![1024 * (sh 3 c).val, 0] := by revert c; decide +kernel
theorem off3_1 (c : Dev nD) : k0_off3 c 1#32 = ![(sh 1 c).val, 0, 0] := by revert c; decide +kernel
theorem off3_2 (c : Dev nD) : k0_off3 c 2#32 = ![(sh 2 c).val, 0, 0] := by revert c; decide +kernel
theorem off3_3 (c : Dev nD) : k0_off3 c 3#32 = ![(sh 3 c).val, 0, 0] := by revert c; decide +kernel
theorem off6_1 (c : Dev nD) : k0_off6 c 1#32 = ![(sh 1 c).val, 0, 0] := by revert c; decide +kernel
theorem off6_2 (c : Dev nD) : k0_off6 c 2#32 = ![(sh 2 c).val, 0, 0] := by revert c; decide +kernel
theorem off6_3 (c : Dev nD) : k0_off6 c 3#32 = ![(sh 3 c).val, 0, 0] := by revert c; decide +kernel
theorem off7_1 (c : Dev nD) : k0_off7 c 1#32 = ![1024 * (sh 1 c).val, 0] := by revert c; decide +kernel
theorem off7_2 (c : Dev nD) : k0_off7 c 2#32 = ![1024 * (sh 2 c).val, 0] := by revert c; decide +kernel
theorem off7_3 (c : Dev nD) : k0_off7 c 3#32 = ![1024 * (sh 3 c).val, 0] := by revert c; decide +kernel
theorem off10_1 (c : Dev nD) : k0_off10 c 1#32 = ![(sh 1 c).val] := by revert c; decide +kernel
theorem off10_2 (c : Dev nD) : k0_off10 c 2#32 = ![(sh 2 c).val] := by revert c; decide +kernel
theorem off10_3 (c : Dev nD) : k0_off10 c 3#32 = ![(sh 3 c).val] := by revert c; decide +kernel

/-! ## The semaphores -/

/-- The barrier semaphore, -/
abbrev barS : Sem sig := (SemArray.scalar (sig.barrier 0 rfl) : Sems sig S_).sem
set_option backward.proofsInPublic true in
/-- the two semaphores of the copies of `w`, -/
def wS (s : Fin 2) : DmaSem sig := ⟨4 + s.val, by have := s.isLt; show 4 + s.val < 13; omega⟩
set_option backward.proofsInPublic true in
/-- the three send semaphores, -/
def sS (k : Fin 3) : DmaSem sig := ⟨6 + k.val, by have := k.isLt; show 6 + k.val < 13; omega⟩
set_option backward.proofsInPublic true in
/-- the four receive semaphores, by sending device. -/
def rS (j : Fin 4) : DmaSem sig := ⟨9 + j.val, by have := j.isLt; show 9 + j.val < 13; omega⟩

theorem semW0 {h} : ((cc0_scratch3.slice (Rect.unit (s := S2) ![0] S1.size h)).squeeze S_ squeezes_S1_S_).sem = wS 0 := by revert h; decide
theorem semW1 {h} : ((cc0_scratch3.slice (Rect.unit (s := S2) ![1] S1.size h)).squeeze S_ squeezes_S1_S_).sem = wS 1 := by revert h; decide
theorem semS0 {h} : ((cc0_scratch4.slice (Rect.unit (s := S3) ![0] S1.size h)).squeeze S_ squeezes_S1_S_).sem = sS 0 := by revert h; decide
theorem semS1 {h} : ((cc0_scratch4.slice (Rect.unit (s := S3) ![1] S1.size h)).squeeze S_ squeezes_S1_S_).sem = sS 1 := by revert h; decide
theorem semS2 {h} : ((cc0_scratch4.slice (Rect.unit (s := S3) ![2] S1.size h)).squeeze S_ squeezes_S1_S_).sem = sS 2 := by revert h; decide
/-- The receive semaphore at offset `j` of the array is the `j`-th. -/
theorem semR {off : Fin 1 → Nat} {h} (j : Fin 4) (hoff : off = ![j.val]) :
    ((cc0_scratch5.slice (Rect.unit (s := S4) off S1.size h)).squeeze S_ squeezes_S1_S_).sem = rS j := by
  subst hoff; revert h j; decide

/-- A device's ten semaphores as the protocol numbers them: barrier, the two of `w`, the three send, and the receive
    semaphore of the device `k` places on. -/
def csem (c : Dev nD) : Fin 10 → SemLoc sig
  | 0 => .reg barS | 1 => .dma (wS 0) | 2 => .dma (wS 1) | 3 => .dma (sS 0) | 4 => .dma (sS 1) | 5 => .dma (sS 2)
  | 6 => .dma (rS (sh 0 c)) | 7 => .dma (rS (sh 1 c)) | 8 => .dma (rS (sh 2 c)) | 9 => .dma (rS (sh 3 c))

abbrev cell (c : Dev nD) (i : Fin 10) : GSem nD τ sig := ((c : Thread nD τ), csem c i)

/-- Which of a device's ten semaphores a semaphore is, if any. -/
def dec (c : Dev nD) (sm : SemLoc sig) : Option (Fin 10) := (List.finRange 10).find? fun i => decide (csem c i = sm)

theorem dec_csem (c : Dev nD) (i : Fin 10) : dec c (csem c i) = some i := by revert c i; decide +kernel
theorem csem_inj (c : Dev nD) : Function.Injective (csem c) := fun i j h => by
  have := congrArg (dec c) h; rw [dec_csem, dec_csem] at this; exact Option.some.inj this

/-! ## Slots of the buffers and their contents -/

theorem inb_slot (j : Fin 4) : ∀ a, (![j.val, 0, 0] : Fin 3 → Nat) a + S1x1024x1024.size a ≤ S4x1024x1024.size a := by revert j; decide
theorem inb_wslot (s : Fin 2) : ∀ a, (![s.val, 0, 0] : Fin 3 → Nat) a + S1x1024x2048.size a ≤ S2x1024x2048.size a := by revert s; decide
theorem inb_wrow (j : Fin 4) : ∀ a, (![1024 * j.val, 0] : Fin 2 → Nat) a + S1024x2048.size a ≤ S4096x2048.size a := by revert j; decide
theorem inb_xrow (j : Fin 4) : ∀ a, (![1024 * j.val, 0] : Fin 2 → Nat) a + S1024x1024.size a ≤ S4096x1024.size a := by revert j; decide

/-- Slot `j` of a four-slot buffer, slot `s` of the two-slot buffer of `w`, row block `j` of `w` and of `x`. -/
abbrev slotR (j : Fin 4) : Rect S4x1024x1024 := Rect.unit (s := S4x1024x1024) ![j.val, 0, 0] S1x1024x1024.size (inb_slot j)
abbrev wslotR (s : Fin 2) : Rect S2x1024x2048 := Rect.unit (s := S2x1024x2048) ![s.val, 0, 0] S1x1024x2048.size (inb_wslot s)
abbrev wrowR (j : Fin 4) : Rect S4096x2048 := Rect.unit (s := S4096x2048) ![1024 * j.val, 0] S1024x2048.size (inb_wrow j)
abbrev xrowR (j : Fin 4) : Rect S4096x1024 := Rect.unit (s := S4096x1024) ![1024 * j.val, 0] S1024x1024.size (inb_xrow j)

/-- What slot `j` of four-slot contents holds; -/
def slotGet (f : S4x1024x1024.Idx → Elt F .fp8e4m3) (j : Fin 4) : S1x1024x1024.Idx → Elt F .fp8e4m3 := fun i => f ((slotR j).emb i)
/-- what slot `s` of the buffer of `w` holds; -/
def wslotGet (f : S2x1024x2048.Idx → Elt F .f32) (s : Fin 2) : S1x1024x2048.Idx → Elt F .f32 := fun i => f ((wslotR s).emb i)
/-- the row blocks of `w` and of `x`. -/
def wrowGet (f : S4096x2048.Idx → Elt F .f32) (j : Fin 4) : S1024x2048.Idx → Elt F .f32 := fun i => f ((wrowR j).emb i)
def xrowGet (f : S4096x1024.Idx → Elt F .f32) (j : Fin 4) : S1024x1024.Idx → Elt F .f32 := fun i => f ((xrowR j).emb i)

/-- The memory at launch. -/
abbrev s₀ : MemSt nD τ sig (Elt F) := ⟨m, fun _ => 0, ρ⟩

/-- The contents of device `c`'s left factor as the kernel finds them staged, its right factor and its two scales. -/
def xAt (c : Dev nD) : (cc0_stg0_0 : Ref sig .tc).ty.Contents (Elt F) :=
  (win0_0.blk (0 : Fin 1)).view.read (Elt F) (m ((c : Thread nD τ).loc main_arg0))
def wAt (c : Dev nD) : S4096x2048.Idx → Elt F .f32 := m ((c : Thread nD τ).loc main_arg1)
def sxAt (c : Dev nD) : (cc0_stg1_0 : Ref sig .tc).ty.Contents (Elt F) :=
  (win0_1.blk (0 : Fin 1)).view.read (Elt F) (m ((c : Thread nD τ).loc main_arg2))
def swAt (c : Dev nD) : (cc0_stg2_0 : Ref sig .tc).ty.Contents (Elt F) :=
  (win0_2.blk (0 : Fin 1)).view.read (Elt F) (m ((c : Thread nD τ).loc main_arg3))

/-- The rounded row block `t` of device `src`'s left factor, as device `src` sends it to device `t`; -/
def xq (src t : Dev nD) : S1x1024x1024.Idx → Elt F .fp8e4m3 := k0_pay1 (xrowGet (xAt m src) t)
theorem shapeCasts_w : S1024x2048.ShapeCasts S1x1024x2048 := by decide
/-- row block `j` of device `c`'s right factor, as it lies in a slot. -/
def wBlk (c : Dev nD) (j : Fin 4) : S1x1024x2048.Idx → Elt F .f32 :=
  shapeCast S1x1024x2048 (wrowGet (wAt m c) j) shapeCasts_w

/-- Holding slot `j` of device `c`'s `x8`, of its `recv`, slot `s` of its copies of `w`, row block `j` of its `w`. -/
def x8Pts (c : Dev nD) (j : Fin 4) (f : S4x1024x1024.Idx → Elt F .fp8e4m3) : sProp 𝕄 :=
  ((c : Thread nD τ).loc cc0_scratch0) ↦[(slotR j).set]{fullShare} f
def rcPts (c : Dev nD) (j : Fin 4) (f : S4x1024x1024.Idx → Elt F .fp8e4m3) : sProp 𝕄 :=
  ((c : Thread nD τ).loc cc0_scratch1) ↦[(slotR j).set]{fullShare} f
def wsPts (c : Dev nD) (s : Fin 2) (f : S2x1024x2048.Idx → Elt F .f32) : sProp 𝕄 :=
  ((c : Thread nD τ).loc cc0_scratch2) ↦[(wslotR s).set]{fullShare} f
def waPts (c : Dev nD) (j : Fin 4) : sProp 𝕄 :=
  ((c : Thread nD τ).loc main_arg1) ↦[(wrowR j).set]{fullShare} wAt m c

/-! ## The schedule -/

/-- A landed slot of `recv`: the sender's rounded block in it. -/
def rcGot (c src : Dev nD) : sProp 𝕄 := iprop(∃ f, ⌜slotGet f src = xq m src c⌝ ∗ rcPts c src f)
/-- A landed row block of `w`: in the slot, and the row block itself back. -/
def wsGot (c : Dev nD) (s : Fin 2) (j : Fin 4) : sProp 𝕄 := iprop((∃ f, ⌜wslotGet f s = wBlk m c j⌝ ∗ wsPts c s f) ∗ waPts m c j)

/-- The duties of a device's `i`-th semaphore at round `r`. -/
def dut (i : Fin 10) (r : ℕ) : Finset (Fin 4) :=
  if i = 0 then (if r = 0 then {1, 2, 3} else ∅)
  else if i = 1 ∨ i = 2 then (if r < 2 then {0} else ∅)
  else if i = 6 then ∅ else if r = 0 then {0} else ∅

/-- The credit of one slot of `w` and of one slot of rounded values. -/
def Nw : ℕ := ((Memref.whole cc0_scratch2).slice (wslotR 0) (fun _ => rfl)).view.dmaCredit
def Nx : ℕ := ((Memref.whole cc0_scratch1).slice (slotR 0) (fun _ => rfl)).view.dmaCredit
theorem Nw_pos : 0 < Nw := View.dmaCredit_pos _ (by decide)
theorem Nx_pos : 0 < Nx := View.dmaCredit_pos _ (by decide)

/-- The units one duty of the `i`-th semaphore raises. -/
def amt (i : Fin 10) : ℕ := if i = 0 then 1 else if i = 1 ∨ i = 2 then Nw else Nx

/-- What a duty of device `c`'s `i`-th semaphore hands over. -/
def pay (c : Dev nD) (i : Fin 10) (r : ℕ) (d : Fin 4) : sProp 𝕄 :=
  match i with
  | 0 => iprop(∃ f, rcPts (sh d c) c f)
  | 1 => wsGot m c 0 (if r = 0 then c else sh 3 c)
  | 2 => wsGot m c 1 (if r = 0 then sh 1 c else sh 2 c)
  | 3 => iprop(∃ f, x8Pts c (sh 1 c) f)
  | 4 => iprop(∃ f, x8Pts c (sh 2 c) f)
  | 5 => iprop(∃ f, x8Pts c (sh 3 c) f)
  | 6 => iprop(emp)
  | 7 => rcGot m c (sh 1 c)
  | 8 => rcGot m c (sh 2 c)
  | 9 => rcGot m c (sh 3 c)

/-- The schedule of every semaphore. -/
def rd : Rounds.Schedule (GSem nD τ sig) (Fin 4) 𝕄 where
  duties g r := if g.1.2 = .tc then (match dec g.1.1 g.2 with | some i => dut i r | none => ∅) else ∅
  unitless _ := False
  amount g _ _ := match dec g.1.1 g.2 with | some i => amt i | none => 1
  payload g r d := match dec g.1.1 g.2 with | some i => pay m g.1.1 i r d | none => iprop(emp)
  amount_pos g _ _ _ := by
    have h (i : Fin 10) : 0 < amt i := by unfold amt; (repeat' split) <;> first | exact Nat.one_pos | exact Nw_pos | exact Nx_pos
    show 0 < (match dec g.1.1 g.2 with | some i => amt i | none => 1)
    split
    · exact h _
    · exact Nat.one_pos

omit [FloatOps F] in
instance rcPts_storable (c : Dev nD) (j : Fin 4) (f) : BI.Storable (upEmb : UEmb _ 𝕄) (rcPts (F := F) c j f) := by unfold rcPts; infer_instance
omit [FloatOps F] in
instance x8Pts_storable (c : Dev nD) (j : Fin 4) (f) : BI.Storable (upEmb : UEmb _ 𝕄) (x8Pts (F := F) c j f) := by unfold x8Pts; infer_instance
omit [FloatOps F] in
instance wsPts_storable (c : Dev nD) (s : Fin 2) (f) : BI.Storable (upEmb : UEmb _ 𝕄) (wsPts (F := F) c s f) := by unfold wsPts; infer_instance
omit [FloatOps F] in
instance waPts_storable (c : Dev nD) (j : Fin 4) : BI.Storable (upEmb : UEmb _ 𝕄) (waPts (F := F) m c j) := by unfold waPts; infer_instance

instance pay_storable (c : Dev nD) (i : Fin 10) (r : ℕ) (d : Fin 4) : BI.Storable (upEmb : UEmb _ 𝕄) (pay (F := F) m c i r d) := by
  unfold pay rcGot wsGot
  fin_cases i <;> dsimp only <;> infer_instance

instance rd_storable (g : GSem nD τ sig) (r : ℕ) (d : Fin 4) : BI.Storable (upEmb : UEmb _ 𝕄) ((rd (F := F) m).payload g r d) := by
  show BI.Storable upEmb (match dec g.1.1 g.2 with | some i => pay m g.1.1 i r d | none => iprop(emp))
  split <;> infer_instance

section Tables
variable (c : Dev nD) (i : Fin 10)

theorem rd_duties (r : ℕ) : (rd (F := F) m).duties (cell c i) r = dut i r := by
  show (if (cell c i).1.2 = .tc then (match dec c (csem c i) with | some i => dut i r | none => ∅) else ∅) = _
  rw [if_pos rfl, dec_csem]
theorem rd_amount (r : ℕ) (d : Fin 4) : (rd (F := F) m).amount (cell c i) r d = amt i := by
  show (match dec c (csem c i) with | some i => amt i | none => 1) = _
  rw [dec_csem]
theorem rd_payload (r : ℕ) (d : Fin 4) : (rd (F := F) m).payload (cell c i) r d = pay m c i r d := by
  show (match dec c (csem c i) with | some i => pay m c i r d | none => iprop(emp)) = _
  rw [dec_csem]

theorem dut_later (r : ℕ) (h : 2 ≤ r) : dut i r = ∅ := by
  unfold dut; (repeat' split) <;> first | rfl | omega

/-- A cell owned by one duty `0` at round `r` expects that duty's amount. -/
theorem rd_expect_one (r : ℕ) (h : dut i r = {0}) : (rd (F := F) m).expect (cell c i) r = amt i := by
  unfold Schedule.expect Schedule.amountOf
  rw [rd_duties, h, Finset.sum_singleton, rd_amount]
theorem rd_expect_bar : (rd (F := F) m).expect (cell c 0) 0 = 3 := by
  unfold Schedule.expect Schedule.amountOf
  rw [rd_duties, Finset.sum_congr rfl fun d _ => rd_amount m c 0 0 d]
  rfl

/-- What is left of a one-duty round: its payload. -/
theorem rd_rest_one (r : ℕ) (h : dut i r = {0}) :
    bigSep ((rd (F := F) m).duties (cell c i) r \ ∅) (fun d => (rd (F := F) m).payload (cell c i) r d) = pay m c i r 0 := by
  rw [Finset.sdiff_empty, rd_duties, h, bigSep_singleton, rd_payload]
/-- What is left of the barrier's round: the three payloads. -/
theorem rd_rest_bar :
    bigSep ((rd (F := F) m).duties (cell c 0) 0 \ ∅) (fun d => (rd (F := F) m).payload (cell c 0) 0 d)
      = iprop(pay m c 0 0 1 ∗ pay m c 0 0 2 ∗ pay m c 0 0 3) := by
  rw [Finset.sdiff_empty, rd_duties, bigSep_eq_bigSepL_of_eq [1, 2, 3] (by decide) (by decide)]
  simp only [rd_payload]
  rfl

end Tables

end Cert.KernelIdeal.Proto

end
-- ==== Proof.KernelIdealSteps.lean ====
/-
# One rule per operation of the kernel

Each theorem here is a library rule for one operation, taken at the protocol of `KernelIdealCells`: what a device gives
up when it runs that operation and what it holds after. The body is then a chain of these.
-/
module

public import proofs.«01_k».proof.Proof.KernelIdealCells

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No operation of the kernel loops. -/
abbrev 𝒱₀ : Variants := Variants.none

/-! ## What every device knows: the cells' invariants, and that each cell reached round 0 -/

/-- Every cell's invariant and that it has reached round 0. -/
def records (K : Dev nD × Fin 10 → ℕ) : sProp 𝕄 :=
  iprop((bigSep Finset.univ fun ci : Dev nD × Fin 10 => cellInv ER (rd m) (K ci) (cell ci.1 ci.2))
    ∗ bigSep Finset.univ fun ci : Dev nD × Fin 10 => reached ER (cell ci.1 ci.2) 0)

instance records_persistent (K : Dev nD × Fin 10 → ℕ) : BI.Persistent (records m K) := by unfold records; infer_instance

variable (K : Dev nD × Fin 10 → ℕ)

theorem records_inv (c : Dev nD) (i : Fin 10) : records m K ⊢ cellInv ER (rd m) (K (c, i)) (cell c i) := by
  unfold records
  iintro ⟨HI, -⟩
  have h : (bigSep Finset.univ fun ci : Dev nD × Fin 10 => (cellInv ER (rd m) (K ci) (cell ci.1 ci.2) : sProp 𝕄)) ⊢ cellInv ER (rd m) (K (c, i)) (cell c i) :=
    bigSep_elim (Finset.mem_univ (c, i))
  iapply h
  iexact HI
theorem records_reached (c : Dev nD) (i : Fin 10) : records m K ⊢ reached ER (cell c i) 0 := by
  unfold records
  iintro ⟨-, HI⟩
  have h : (bigSep Finset.univ fun ci : Dev nD × Fin 10 => (reached ER (cell ci.1 ci.2) 0 : sProp 𝕄)) ⊢ reached ER (cell c i) 0 :=
    bigSep_elim (Finset.mem_univ (c, i))
  iapply h
  iexact HI

/-- What device `c` owes, whatever waits it has recorded. -/
def ow (c : Dev nD) (O : CellTallies nD τ sig Unit) : sProp 𝕄 := iprop(∃ W, owes (c : Thread nD τ) O W)

/-- The send cell's and the receive cell's numbers for the device `k` places on. -/
abbrev si (k : Fin 4) : Fin 10 := match k with | 0 => 0 | 1 => 3 | 2 => 4 | 3 => 5
abbrev ri (k : Fin 4) : Fin 10 := match k with | 0 => 6 | 1 => 7 | 2 => 8 | 3 => 9

/-- The debts a device starts with: one unit to the barrier cell of the device `k` places on, -/
def oB (k : Fin 4) (c : Dev nD) : CellTallies nD τ sig Unit := tallyAt (cell (sh k c) 0) () 1
/-- and one slot's credit to its receive cell for `c`. -/
def oV (k : Fin 4) (c : Dev nD) : CellTallies nD τ sig Unit := tallyAt (cell (sh k c) (ri (-k))) () Nx

/-- What is owed once the signals are out: the three slots' credits; -/
def oR (c : Dev nD) : CellTallies nD τ sig Unit := 0 + oV 2 c + oV 3 c + oV 1 c
/-- and at the start: those and the three signals. -/
def O₀ (c : Dev nD) : CellTallies nD τ sig Unit := oR c + oB 3 c + oB 2 c + oB 1 c

theorem csem_ri (k : Fin 4) (c : Dev nD) : csem (sh k c) (ri (-k)) = .dma (rS c) := by revert k c; decide

/-! ## Levels: a wait on a barrier cell comes before one on a receive cell -/

def L (g : GSem nD τ sig) : Finset Unit := if g.1.2 = .tc then {()} else ∅
def lv (g : GSem nD τ sig) (_ : Unit) : ℕ := match g.2 with | .reg _ => 1 | .dma q => if 9 ≤ q.val then 2 else 0

theorem L_tc (c : Dev nD) (sm : SemLoc sig) : L ((c : Thread nD τ), sm) = {()} := if_pos rfl
theorem L_of_ne (g : GSem nD τ sig) (h : ∀ d : Dev nD, g.1 ≠ d.tc) : L g = ∅ := by
  unfold L
  rw [if_neg]
  intro h'
  exact h g.1.1 (Prod.ext rfl h')

theorem lv_rS (c : Dev nD) (j : Fin 4) : lv ((c : Thread nD τ), .dma (rS j)) () = 2 := by
  show (if 9 ≤ (rS j).val then 2 else 0) = 2
  rw [if_pos]
  show 9 ≤ 9 + j.val
  omega

theorem oB_pos {k : Fin 4} {c : Dev nD} {g : GSem nD τ sig} {u : Unit} (h : 0 < oB k c g u) : g = ((sh k c : Thread nD τ), .reg barS) := by
  unfold oB at h
  rw [tallyAt_apply] at h
  by_contra hn
  rw [if_neg fun h' => hn h'.1] at h
  exact Nat.lt_irrefl 0 h
theorem oV_pos {k : Fin 4} {c : Dev nD} {g : GSem nD τ sig} {u : Unit} (h : 0 < oV k c g u) : g = ((sh k c : Thread nD τ), .dma (rS c)) := by
  unfold oV at h
  rw [tallyAt_apply] at h
  by_contra hn
  rw [if_neg fun h' => hn (h'.1.trans (congrArg (Prod.mk _) (csem_ri k c)))] at h
  exact Nat.lt_irrefl 0 h
theorem oR_pos {c : Dev nD} {g : GSem nD τ sig} {u : Unit} (h : 0 < oR c g u) : ∃ k, g = ((sh k c : Thread nD τ), .dma (rS c)) := by
  have e : oR c g u = oV 2 c g u + oV 3 c g u + oV 1 c g u := by unfold oR; rw [zero_add]; rfl
  rw [e] at h
  rcases Nat.eq_zero_or_pos (oV 2 c g u) with h2 | h2
  · rcases Nat.eq_zero_or_pos (oV 3 c g u) with h3 | h3
    · rw [h2, h3, Nat.zero_add] at h
      exact ⟨1, oV_pos h⟩
    · exact ⟨3, oV_pos h3⟩
  · exact ⟨2, oV_pos h2⟩
theorem O₀_pos {c : Dev nD} {g : GSem nD τ sig} {u : Unit} (h : 0 < O₀ c g u) :
    (∃ k, g = ((sh k c : Thread nD τ), .dma (rS c))) ∨ ∃ k, g = ((sh k c : Thread nD τ), .reg barS) := by
  have e : O₀ c g u = oR c g u + oB 3 c g u + oB 2 c g u + oB 1 c g u := rfl
  rw [e] at h
  rcases Nat.eq_zero_or_pos (oR c g u) with h0 | h0
  · rcases Nat.eq_zero_or_pos (oB 2 c g u) with h2 | h2
    · rcases Nat.eq_zero_or_pos (oB 3 c g u) with h3 | h3
      · rw [h0, h2, h3, Nat.zero_add] at h
        exact .inr ⟨1, oB_pos h⟩
      · exact .inr ⟨3, oB_pos h3⟩
    · exact .inr ⟨2, oB_pos h2⟩
  · exact .inl (oR_pos h0)

omit [FloatOps F] in
/-- Whatever a device owes is above the semaphores of the staging. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> rw [L_tc] <;> exact Finset.mem_singleton_self _)
      (fun p hp => by
        rw [Finset.mem_singleton.mp hp]
        show (if 9 ≤ q.val then 2 else 0) ≤ 0
        rw [if_neg (by omega)])
      (fun g u hg => by
        rcases O₀_pos hg with ⟨k, rfl⟩ | ⟨k, rfl⟩
        · rw [lv_rS]; decide
        · exact Nat.one_pos)
  · rw [MayWait_zero]; iintro -; iempintro
omit [FloatOps F] in
/-- At its barrier wait a device owes slots' credits only: receive cells, above its barrier cell. -/
theorem mayWait_bar (c : Dev nD) : (levAts L lv : sProp 𝕄) ⊢ MayWait (c : Thread nD τ) (.reg barS) () (oR c) :=
  MayOwe.of_cut (L := L) (lev := lv) 1 (fun p hp => by rw [Finset.mem_singleton.mp hp, L_tc]; exact Finset.mem_singleton_self _)
    (fun g u hg => by obtain ⟨k, rfl⟩ := oR_pos hg; rw [L_tc]; exact Finset.mem_singleton_self _)
    (fun p hp => by rw [Finset.mem_singleton.mp hp]; exact le_rfl)
    (fun g u hg => by obtain ⟨k, rfl⟩ := oR_pos hg; rw [lv_rS]; decide)

theorem dut_bar (k : Fin 4) (hk : k ≠ 0) : -k ∈ dut 0 0 := by revert k; decide
theorem dut_si (k : Fin 4) (hk : k ≠ 0) : dut (si k) 0 = {0} := by revert k; decide
theorem dut_ri (k : Fin 4) (hk : k ≠ 0) : dut (ri (-k)) 0 = {0} := by revert k; decide

/-! ## The credit of each transfer's destination -/

theorem cred_x8 {off : Fin 3 → Nat} {h} : (((Memref.whole cc0_scratch0 : Memref sig .tc .vmem S4x1024x1024 .fp8e4m3).slice (Rect.unit (s := S4x1024x1024) off S1x1024x1024.size h) (fun _ => rfl)).squeeze
    S1024x1024 squeezes_S1x1024x1024_S1024x1024).view.dmaCredit = Nx := rfl
theorem cred_rc {off : Fin 3 → Nat} {h} : (((Memref.whole cc0_scratch1 : Memref sig .tc .vmem S4x1024x1024 .fp8e4m3).slice (Rect.unit (s := S4x1024x1024) off S1x1024x1024.size h) (fun _ => rfl)).squeeze
    S1024x1024 squeezes_S1x1024x1024_S1024x1024).view.dmaCredit = Nx := rfl
theorem cred_ws {off : Fin 3 → Nat} {h} : (((Memref.whole cc0_scratch2 : Memref sig .tc .vmem S2x1024x2048 .f32).slice (Rect.unit (s := S2x1024x2048) off S1x1024x2048.size h) (fun _ => rfl)).squeeze
    S1024x2048 squeezes_S1x1024x2048_S1024x2048).view.dmaCredit = Nw := rfl

section Steps

variable {α : Type} {Qp : α → sProp (MT nD τ sig Unit (Elt F) ℕ UU ℕ)} (c : Dev nD)

/-! ## Signals and waits -/

/-- The signal to the barrier of the device `k` places on: it carries slot `sh k c` of `c`'s own `recv`. -/
theorem step_signal (k : Fin 4) (hk : k ≠ 0) {n : Dev nD} (hn : n = sh k c) {u : ℤ} (hu : u = 1) (O : CellTallies nD τ sig Unit)
    {kk : PUnit → Prog (TpuEff nD τ sig (Elt F) Λ₀ .tc) α} :
    iprop(records m K ∗ ow c (O + oB k c) ∗ dutyTok ER (cell (sh k c) 0) 0 (-k) ∗ (∃ f, rcPts (F := F) c (sh k c) f))
      ⊢ iprop((ow c O -∗ wp frame (wpE (defs₀ (F := F)) 𝒱₀ (c : Thread nD τ) none) Set.univ (kk ⟨⟩) Qp)
          -∗ wp frame (wpE (defs₀ (F := F)) 𝒱₀ (c : Thread nD τ) none) Set.univ (.op (.semSignal (n : Thread nD τ) barS u) kk) Qp) := by
  subst hn hu
  unfold ow
  iintro ⟨#HR, ⟨%W, HO⟩, Ht, Hp⟩ Hk
  iapply (Rounds.wp_signal 𝒱₀ ER (rd m) (c : Thread nD τ) none (dst := (sh k c : Thread nD τ)) (sem := barS) (κ := K (sh k c, 0)) (r := 0)
      (d := -k) (by have := rd_duties (F := F) m (sh k c) 0 0; rw [show ((sh k c : Thread nD τ), SemLoc.reg barS) = cell (sh k c) 0 from rfl, this]; exact dut_bar k hk)
      ((rd_amount m (sh k c) 0 0 (-k)).trans (by decide)) () O rfl) $$ [HO Ht Hp]
  · isplitr; · iapply (records_inv m K (sh k c) 0); iexact HR
    isplitl [HO]; · iexact HO
    isplitl [Ht]; · iexact Ht
    isplitl [Hp]
    · rw [show (rd (F := F) m).payload ((sh k c : Thread nD τ), SemLoc.reg barS) 0 (-k) = pay m (sh k c) 0 0 (-k) from rd_payload m (sh k c) 0 0 (-k)]
      unfold pay; dsimp only; rw [sh_neg]; iexact Hp
    · iapply (records_reached m K (sh k c) 0); iexact HR
  iintro HO
  iapply Hk
  iexists W; iexact HO

/-- The wait for the three signals: slot `c` of the `recv` of each other device. -/
theorem step_barwait {u : ℤ} (hu : u = 3) (O : CellTallies nD τ sig Unit) {kk : PUnit → Prog (TpuEff nD τ sig (Elt F) Λ₀ .tc) α}
    (P : sProp 𝕄) [BI.Persistent P] (hP : P ⊢ MayWait (c : Thread nD τ) (.reg barS) () O) :
    iprop(records m K ∗ P ∗ ow c O ∗ cred (tallyAt (cell c 0) () 3) ∗ atPos ER (cell c 0) 0 ∅ 0)
      ⊢ iprop(((ow c O ∗ atPos ER (cell c 0) 1 ∅ 0
            ∗ (∃ f, rcPts (F := F) (sh 1 c) c f) ∗ (∃ f, rcPts (F := F) (sh 2 c) c f) ∗ (∃ f, rcPts (F := F) (sh 3 c) c f))
          -∗ wp frame (wpE (defs₀ (F := F)) 𝒱₀ (c : Thread nD τ) none) Set.univ (kk ⟨⟩) Qp)
          -∗ wp frame (wpE (defs₀ (F := F)) 𝒱₀ (c : Thread nD τ) none) Set.univ (.op (.semWait barS u) kk) Qp) := by
  subst hu
  unfold ow
  iintro ⟨#HR, #HP, ⟨%W, HO⟩, Hc, Ha⟩ Hk
  iapply (Rounds.wp_wait_rest_token 𝒱₀ ER (rd m) (c : Thread nD τ) none (κ := K (c, 0))
      (wpE_semWait_eq 𝒱₀ (c : Thread nD τ) none Set.univ) (Set.mem_univ _) () (O := O) (W := W) (R := 0) (m := 0) (T := ∅)
      (by rw [show ((c : Thread nD τ), SemLoc.reg barS) = cell c 0 from rfl, rd_expect_bar])) $$ [Hc HO Ha]
  · isplitr; · iapply (records_inv m K c 0); iexact HR
    isplitl [Hc]; · iexact Hc
    isplitl [HO]; · iexact HO
    isplitr; · iapply hP; iexact HP
    iexact Ha
  iintro ⟨HO, Ha, -, Hpay⟩
  have hb : (bigSep ((rd (F := F) m).duties ((c : Thread nD τ), SemLoc.reg barS) 0 \ ∅) fun d => (rd m).payload ((c : Thread nD τ), SemLoc.reg barS) 0 d)
      ⊢ iprop(pay m c 0 0 1 ∗ pay m c 0 0 2 ∗ pay m c 0 0 3) := Entails.of_eq (rd_rest_bar m c)
  ihave Hp := hb $$ Hpay
  unfold pay; dsimp only
  icases Hp with ⟨H1, H2, H3⟩
  iapply Hk
  isplitl [HO]; · iexists _; iexact HO
  isplitl [Ha]; · iexact Ha
  isplitl [H1]; · iexact H1
  isplitl [H2] <;> iassumption

/-- A wait, owing nothing, for the one transfer of round `r` of the `i`-th cell: that round's payload. -/
theorem step_wait (i : Fin 10) (r : ℕ) (hd : dut i r = {0}) (N : ℕ) (hA : amt i = N) (P : sProp (MT nD τ sig Unit (Elt F) ℕ UU ℕ)) (hP : pay m c i r 0 = P) {sem : DmaSem sig} (hs : csem c i = .dma sem)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = N)
    {kk : PUnit → Prog (TpuEff nD τ sig (Elt F) Λ₀ .tc) α} :
    iprop(records m K ∗ ow c 0 ∗ cred (tallyAt (cell c i) () N) ∗ atPos ER (cell c i) r ∅ 0)
      ⊢ iprop(((ow c 0 ∗ atPos ER (cell c i) (r + 1) ∅ 0 ∗ reached ER (cell c i) (r + 1) ∗ P)
          -∗ wp frame (wpE (defs₀ (F := F)) 𝒱₀ (c : Thread nD τ) none) Set.univ (kk ⟨⟩) Qp)
          -∗ wp frame (wpE (defs₀ (F := F)) 𝒱₀ (c : Thread nD τ) none) Set.univ (.op (.waitDma2 sem src dst hsrc hdst) kk) Qp) := by
  subst hA hP
  unfold ow
  rw [← hN, ← rd_rest_one m c i r hd]
  have he := rd_expect_one m c i r hd
  rw [← hN] at he
  unfold cell at he ⊢
  have hR : records m K ⊢ cellInv ER (rd m) (K (c, i)) (cell c i) := records_inv m K c i
  unfold cell at hR
  rw [hs] at he hR ⊢
  iintro ⟨#HR, ⟨%W, HO⟩, Hc, Ha⟩ Hk
  iapply (Rounds.wp_wait_rest_token 𝒱₀ ER (rd m) (c : Thread nD τ) none (κ := K (c, i))
      (wpE_waitDma2_eq 𝒱₀ (c : Thread nD τ) none Set.univ) (Set.mem_univ _) () (O := 0) (W := W) (R := r) (m := 0) (T := ∅)
      (by rw [Nat.zero_add, he])) $$ [Hc HO Ha]
  · isplitr; · iapply hR; iexact HR
    isplitl [Hc]; · iexact Hc
    isplitl [HO]; · iexact HO
    isplitr; · rw [MayWait_zero]; iempintro
    iexact Ha
  iintro ⟨HO, Ha, Hr, Hpay⟩
  iapply Hk
  isplitl [HO]; · iexists _; iexact HO
  isplitl [Ha]; · iexact Ha
  isplitl [Hr] <;> iassumption

/-! ## The buffers' slots as the program names them -/

theorem set_slot {b : Ref sig .tc} {j : Fin 4} {r : Rect S4x1024x1024} (hr : r = slotR j) : r.set = (slotR j).set := by rw [hr]

theorem slot_eq {off : Fin 3 → Nat} {h} {j : Fin 4} (hoff : off = ![j.val, 0, 0]) :
    (Rect.unit (s := S4x1024x1024) off S1x1024x1024.size h) = slotR j := by subst hoff; rfl
theorem wslot_eq {off : Fin 3 → Nat} {h} {j : Fin 2} (hoff : off = ![j.val, 0, 0]) :
    (Rect.unit (s := S2x1024x2048) off S1x1024x2048.size h) = wslotR j := by subst hoff; rfl
theorem wrow_eq {off : Fin 2 → Nat} {h} {j : Fin 4} (hoff : off = ![1024 * j.val, 0]) :
    (Rect.unit (s := S4096x2048) off S1024x2048.size h) = wrowR j := by subst hoff; rfl

/-- Slot `j` of `x8` and of `recv`, slot `s` of the copies of `w`, row block `j` of `w`, as the transfers name them. -/
abbrev x8M (j : Fin 4) : Memref sig .tc .vmem S1024x1024 .fp8e4m3 :=
  ((Memref.whole cc0_scratch0 : Memref sig .tc .vmem S4x1024x1024 .fp8e4m3).slice (slotR j) (fun _ => rfl)).squeeze S1024x1024 squeezes_S1x1024x1024_S1024x1024
abbrev rcM (j : Fin 4) : Memref sig .tc .vmem S1024x1024 .fp8e4m3 :=
  ((Memref.whole cc0_scratch1 : Memref sig .tc .vmem S4x1024x1024 .fp8e4m3).slice (slotR j) (fun _ => rfl)).squeeze S1024x1024 squeezes_S1x1024x1024_S1024x1024
abbrev wsM (s : Fin 2) : Memref sig .tc .vmem S1024x2048 .f32 :=
  ((Memref.whole cc0_scratch2 : Memref sig .tc .vmem S2x1024x2048 .f32).slice (wslotR s) (fun _ => rfl)).squeeze S1024x2048 squeezes_S1x1024x2048_S1024x2048
abbrev waM (j : Fin 4) : Memref sig .tc .hbm S1024x2048 .f32 :=
  (Memref.whole main_arg1 : Memref sig .tc .hbm S4096x2048 .f32).slice (wrowR j) (fun _ => rfl)

theorem x8M_set (j : Fin 4) : (x8M j).view.set = (slotR j).set := (View.set_reshape _ _).trans (View.set_slice_whole _ _)
theorem rcM_set (j : Fin 4) : (rcM j).view.set = (slotR j).set := (View.set_reshape _ _).trans (View.set_slice_whole _ _)
theorem wsM_set (s : Fin 2) : (wsM s).view.set = (wslotR s).set := (View.set_reshape _ _).trans (View.set_slice_whole _ _)
theorem waM_set (j : Fin 4) : (waM j).view.set = (wrowR j).set := View.set_slice_whole _ _

/-- What the landing of slot `j` of `x8` in slot `i` of `recv` leaves there: what slot `j` held. -/
theorem land_x (i j : Fin 4) (fd fs : S4x1024x1024.Idx → Elt F .fp8e4m3) :
    slotGet ((rcM i).view.write (Elt F) fd ((x8M j).view.read (Elt F) fs) Finset.univ) i = slotGet fs j := by
  funext x
  obtain ⟨y, rfl⟩ := (Shape.reshapeEquiv squeezes_S1x1024x1024_S1024x1024.numel_eq).surjective x
  exact View.write_emb_of_mem (v := (rcM i).view) fd ((x8M j).view.read (Elt F) fs) (Finset.mem_univ y)

/-- What the copy of row block `j` of `w` in slot `s` leaves there: that row block. -/
theorem land_w (s : Fin 2) (j : Fin 4) (fd : S2x1024x2048.Idx → Elt F .f32) :
    wslotGet ((wsM s).view.write (Elt F) fd ((waM j).view.read (Elt F) (wAt m c)) Finset.univ) s = wBlk m c j := by
  funext x
  obtain ⟨y, rfl⟩ := (Shape.reshapeEquiv squeezes_S1x1024x2048_S1024x2048.numel_eq).surjective x
  refine (View.write_emb_of_mem (v := (wsM s).view) fd ((waM j).view.read (Elt F) (wAt m c)) (Finset.mem_univ y)).trans ?_
  unfold wBlk shapeCast
  rw [Shape.reshapeEquiv_reshapeEquiv, Shape.reshapeEquiv_self]
  rfl

/-! ## Transfers -/

/-- The transfer of slot `sh k c` of `x8` to the device `k` places on, into slot `c` of its `recv`. -/
theorem step_send (k : Fin 4) (hk : k ≠ 0) (i j : Fin 10) (hi : i = si k) (hj : j = ri (-k)) {n : Dev nD} (hn : n = sh k c) {s1 s2 : DmaSem sig} (h1 : csem c i = .dma s1) (h2 : s2 = rS c)
    {o1 o2 : Fin 3 → Nat} {i1 i2} (ho1 : o1 = ![(sh k c).val, 0, 0]) (ho2 : o2 = ![c.val, 0, 0])
    {hsc : (((Memref.whole cc0_scratch1 : Memref sig (Dev.tc n : Thread nD τ).2.kind .vmem S4x1024x1024 .fp8e4m3).slice (Rect.unit (s := S4x1024x1024) o2 S1x1024x1024.size i2) (fun _ => rfl)).squeeze S1024x1024 squeezes_S1x1024x1024_S1024x1024).view.ref.isScScratch = false}
    {hsrc hdst hsem} (fs : S4x1024x1024.Idx → Elt F .fp8e4m3) (hfs : slotGet fs (sh k c) = xq m c (sh k c)) (O : CellTallies nD τ sig Unit)
    {kk : PUnit → Prog (TpuEff nD τ sig (Elt F) Λ₀ .tc) α} :
    iprop(records m K ∗ x8Pts c (sh k c) fs ∗ (∃ f, rcPts (F := F) (sh k c) c f) ∗ ow c (O + oV k c)
        ∗ dutyTok ER (cell c i) 0 0 ∗ dutyTok ER (cell (sh k c) j) 0 0)
      ⊢ iprop(((cred (tallyAt (cell c i) () Nx) ∗ ow c O) -∗ wp frame (wpE (defs₀ (F := F)) 𝒱₀ (c : Thread nD τ) none) Set.univ (kk ⟨⟩) Qp)
          -∗ wp frame (wpE (defs₀ (F := F)) 𝒱₀ (c : Thread nD τ) none) Set.univ
              (.op (.enqueueDma (((Memref.whole cc0_scratch0 : Memref sig .tc .vmem S4x1024x1024 .fp8e4m3).slice (Rect.unit (s := S4x1024x1024) o1 S1x1024x1024.size i1) (fun _ => rfl)).squeeze S1024x1024 squeezes_S1x1024x1024_S1024x1024)
                (.remote (Dev.tc n : Thread nD τ) (((Memref.whole cc0_scratch1 : Memref sig (Dev.tc n : Thread nD τ).2.kind .vmem S4x1024x1024 .fp8e4m3).slice (Rect.unit (s := S4x1024x1024) o2 S1x1024x1024.size i2) (fun _ => rfl)).squeeze S1024x1024 squeezes_S1x1024x1024_S1024x1024) (.dma s1) hsc) (.dma s2) hsrc hdst hsem) kk) Qp) := by
  subst hi hj hn h2 ho1 ho2
  have e1 : cell c (si k) = ((c : Thread nD τ), SemLoc.dma s1) := congrArg (Prod.mk _) h1
  have e2 : cell (sh k c) (ri (-k)) = ((sh k c : Thread nD τ), SemLoc.dma (rS c)) := congrArg (Prod.mk _) (csem_ri k c)
  have hk1 := dut_si k hk
  have hk2 := dut_ri k hk
  have hd1 : 0 ∈ (rd (F := F) m).duties ((c : Thread nD τ), SemLoc.dma s1) 0 := by rw [← e1, rd_duties, hk1]; exact Finset.mem_singleton_self _
  have hd2 : 0 ∈ (rd (F := F) m).duties ((sh k c : Thread nD τ), SemLoc.dma (rS c)) 0 := by rw [← e2, rd_duties, hk2]; exact Finset.mem_singleton_self _
  have ha1 : (rd (F := F) m).amount ((c : Thread nD τ), SemLoc.dma s1) 0 0 = Nx := by rw [← e1, rd_amount]; revert hk k; intro k; fin_cases k <;> intros <;> first | contradiction | rfl
  have ha2 : (rd (F := F) m).amount ((sh k c : Thread nD τ), SemLoc.dma (rS c)) 0 0 = Nx := by rw [← e2, rd_amount]; revert hk k; intro k; fin_cases k <;> intros <;> first | contradiction | rfl
  have hp1 : (x8Pts c (sh k c) fs : sProp 𝕄) ⊢ (rd (F := F) m).payload ((c : Thread nD τ), SemLoc.dma s1) 0 0 := by
    rw [← e1, rd_payload]
    have : pay m c (si k) 0 0 = iprop(∃ f, x8Pts (F := F) c (sh k c) f) := by
      revert hk; clear * -; intro hk; fin_cases k <;> first | contradiction | rfl
    rw [this]
    iintro H; iexists fs; iexact H
  have hp2 (fd : S4x1024x1024.Idx → Elt F .fp8e4m3) : (rcPts (sh k c) c ((rcM c).view.write (Elt F) fd ((x8M (sh k c)).view.read (Elt F) fs) Finset.univ) : sProp 𝕄)
      ⊢ (rd (F := F) m).payload ((sh k c : Thread nD τ), SemLoc.dma (rS c)) 0 0 := by
    rw [← e2, rd_payload]
    have : pay m (sh k c) (ri (-k)) 0 0 = rcGot m (sh k c) c := by
      have h3 := sh_neg k c
      revert hk h3; clear * -; intro hk; fin_cases k <;> first | contradiction | (intro h3; exact congrArg (rcGot m _) h3)
    rw [this]
    unfold rcGot
    iintro H; iexists _
    isplitr; · ipureintro; exact (land_x c (sh k c) fd fs).trans hfs
    iexact H
  unfold ow oV
  rw [e1, e2]
  have hI1 := records_inv m K c (si k)
  have hI2 := records_inv m K (sh k c) (ri (-k))
  have hr1 := records_reached m K c (si k)
  have hr2 := records_reached m K (sh k c) (ri (-k))
  rw [e1] at hI1 hr1
  rw [e2] at hI2 hr2
  iintro ⟨#HR, Hx, ⟨%fd, Hd⟩, ⟨%W, HO⟩, Ht1, Ht2⟩ Hk
  have hs1 := (x8M_set (sh k c))
  have hs2 := (rcM_set c)
  have key := Rounds.wp_send_pointsTo (defs := defs₀ (F := F)) (Γ := .empty) (Q := Qp) (k := kk) 𝒱₀ ER (rd m) (c : Thread nD τ) none (c' := (sh k c : Thread nD τ)) (src := x8M (sh k c)) (dst := rcM c)
    (hsc := hsc) (sS := .dma s1) (sem := .dma (rS c)) (hsrc := hsrc) (hdst := hdst) (hsem := hsem) (q := fullShare) (fs := fs) (fd := fd)
    (κ₁ := K (c, si k)) (κ₂ := K (sh k c, ri (-k))) hd1 hd2 () () Nx rfl ha1 ha2 O rfl (W := W) (Es := Set.univ)
    (by rw [hs1]; exact hp1) (by rw [hs2]; exact hp2 fd)
  rw [hs1, hs2] at key
  have hx1 : (x8Pts c (sh k c) fs : sProp 𝕄) ⊢ ((x8M (sh k c)).view.loc (c : Thread nD τ) ↦[(slotR (sh k c)).set]{fullShare} fs) := Entails.of_eq rfl
  have hx2 : (rcPts (sh k c) c fd : sProp 𝕄) ⊢ ((rcM c).view.loc (sh k c : Thread nD τ) ↦[(slotR c).set]{fullShare} fd) := Entails.of_eq rfl
  iapply key $$ [Hx Hd HO Ht1 Ht2]
  · isplitr; · iapply hI1; iexact HR
    isplitr; · iapply hI2; iexact HR
    isplitl [Hx]; · iapply hx1; iexact Hx
    isplitl [Hd]; · iapply hx2; iexact Hd
    isplitl [HO]; · iexact HO
    isplitl [Ht1]; · iexact Ht1
    isplitr; · iapply hr1; iexact HR
    isplitl [Ht2]; · iexact Ht2
    iapply hr2; iexact HR
  iintro ⟨Hc, HO⟩
  iapply Hk
  isplitl [Hc]; · iexact Hc
  iexists W; iexact HO

/-- The copy of row block `j` of `w` into slot `s`, the `r`-th on that slot's semaphore. -/
theorem step_copy (s : Fin 2) (j : Fin 4) (i : Fin 10) (r : ℕ) (hp : pay m c i r 0 = wsGot m c s j) (hd : dut i r = {0}) (ha : amt i = Nw)
    {s1 : DmaSem sig} (h1 : csem c i = .dma s1)
    {o1 : Fin 2 → Nat} {o2 : Fin 3 → Nat} {i1 i2} (ho1 : o1 = ![1024 * j.val, 0]) (ho2 : o2 = ![s.val, 0, 0])
    {hsrc hdst hsem} {kk : PUnit → Prog (TpuEff nD τ sig (Elt F) Λ₀ .tc) α} :
    iprop(records m K ∗ reached ER (cell c i) r ∗ waPts m c j ∗ (∃ f, wsPts (F := F) c s f) ∗ dutyTok ER (cell c i) r 0)
      ⊢ iprop((cred (tallyAt (cell c i) () Nw) -∗ wp frame (wpE (defs₀ (F := F)) 𝒱₀ (c : Thread nD τ) none) Set.univ (kk ⟨⟩) Qp)
          -∗ wp frame (wpE (defs₀ (F := F)) 𝒱₀ (c : Thread nD τ) none) Set.univ
              (.op (.enqueueDma ((Memref.whole main_arg1 : Memref sig .tc .hbm S4096x2048 .f32).slice (Rect.unit (s := S4096x2048) o1 S1024x2048.size i1) (fun _ => rfl))
                (.here (((Memref.whole cc0_scratch2 : Memref sig .tc .vmem S2x1024x2048 .f32).slice (Rect.unit (s := S2x1024x2048) o2 S1x1024x2048.size i2) (fun _ => rfl)).squeeze S1024x2048 squeezes_S1x1024x2048_S1024x2048))
                (.dma s1) hsrc hdst hsem) kk) Qp) := by
  subst ho1 ho2
  have e1 : cell c i = ((c : Thread nD τ), SemLoc.dma s1) := congrArg (Prod.mk _) h1
  have hd1 : 0 ∈ (rd (F := F) m).duties ((c : Thread nD τ), SemLoc.dma s1) r := by rw [← e1, rd_duties, hd]; exact Finset.mem_singleton_self _
  have ha1 : (rd (F := F) m).amount ((c : Thread nD τ), SemLoc.dma s1) r 0 = Nw := by rw [← e1, rd_amount, ha]
  have hp1 (fd : S2x1024x2048.Idx → Elt F .f32) : iprop(wsPts c s ((wsM s).view.write (Elt F) fd ((waM j).view.read (Elt F) (wAt m c)) Finset.univ) ∗ waPts m c j : sProp 𝕄)
      ⊢ (rd (F := F) m).payload ((c : Thread nD τ), SemLoc.dma s1) r 0 := by
    rw [← e1, rd_payload, hp]
    unfold wsGot
    iintro ⟨H, Hw⟩
    isplitl [H]
    · iexists _
      isplitr; · ipureintro; exact land_w m c s j fd
      iexact H
    iexact Hw
  have hI1 := records_inv m K c i
  rw [e1] at hI1 ⊢
  iintro ⟨#HR, Hr, Hw, ⟨%fd, Hd⟩, Ht⟩ Hk
  have hs1 := waM_set j
  have hs2 := wsM_set s
  have key := Rounds.wp_copy_pointsTo (defs := defs₀ (F := F)) (Γ := .empty) (Q := Qp) (k := kk) 𝒱₀ ER (rd m) (c : Thread nD τ) none (src := waM j) (dst := wsM s)
    (sem := .dma s1) (hsrc := hsrc) (hdst := hdst) (hsem := hsem) (q := fullShare) (fs := wAt m c) (fd := fd)
    (κ := K (c, i)) hd1 () Nw rfl ha1 (Es := Set.univ) (by rw [hs1, hs2]; exact hp1 fd)
  rw [hs1, hs2] at key
  have hx1 : (waPts m c j : sProp 𝕄) ⊢ ((waM j).view.loc (c : Thread nD τ) ↦[(wrowR j).set]{fullShare} wAt m c) := Entails.of_eq rfl
  have hx2 : (wsPts c s fd : sProp 𝕄) ⊢ ((wsM s).view.loc (c : Thread nD τ) ↦[(wslotR s).set]{fullShare} fd) := Entails.of_eq rfl
  iapply key $$ [Hw Hd Ht Hr]
  · isplitr; · iapply hI1; iexact HR
    isplitl [Hw]; · iapply hx1; iexact Hw
    isplitl [Hd]; · iapply hx2; iexact Hd
    isplitl [Ht]; · iexact Ht
    iexact Hr
  iexact Hk

/-! ## Loads and stores -/

/-- The load of row block `j` of `x`. -/
theorem step_ldx (j : Fin 4) {off : Fin 2 → Nat} {h} (hoff : off = ![1024 * j.val, 0]) {hl}
    (f : (cc0_stg0_0 : Ref sig .tc).ty.Contents (Elt F)) {kk : (S1024x1024.Idx → Elt F .f32) → Prog (TpuEff nD τ sig (Elt F) Λ₀ .tc) α} :
    (((c : Thread nD τ).loc cc0_stg0_0) ↦{fullShare} f : sProp 𝕄)
      ⊢ iprop(((((c : Thread nD τ).loc cc0_stg0_0) ↦{fullShare} f) -∗ wp frame (wpE (defs₀ (F := F)) 𝒱₀ (c : Thread nD τ) none) Set.univ (kk (xrowGet f j)) Qp)
          -∗ wp frame (wpE (defs₀ (F := F)) 𝒱₀ (c : Thread nD τ) none) Set.univ
              (.op (.load (Memref.whole cc0_stg0_0 : Memref sig .tc .vmem S4096x1024 .f32) (Rect.unit (s := S4096x1024) off S1024x1024.size h).toLoadRect hl) kk) Qp) := by
  subst hoff
  exact wp_load 𝒱₀ (c : Thread nD τ) none Set.univ (m := (Memref.whole cc0_stg0_0 : Memref sig .tc .vmem S4096x1024 .f32)) (k := kk) (f := f) (hl := hl) (Finset.subset_univ _)

/-- The load of slot `j` of `x8`, -/
theorem step_ldx8 (j : Fin 4) {off : Fin 3 → Nat} {h} (hoff : off = ![j.val, 0, 0]) {hl}
    (f : S4x1024x1024.Idx → Elt F .fp8e4m3) {kk : (S1x1024x1024.Idx → Elt F .fp8e4m3) → Prog (TpuEff nD τ sig (Elt F) Λ₀ .tc) α} :
    (x8Pts c j f : sProp 𝕄)
      ⊢ iprop((x8Pts c j f -∗ wp frame (wpE (defs₀ (F := F)) 𝒱₀ (c : Thread nD τ) none) Set.univ (kk (slotGet f j)) Qp)
          -∗ wp frame (wpE (defs₀ (F := F)) 𝒱₀ (c : Thread nD τ) none) Set.univ
              (.op (.load (Memref.whole cc0_scratch0 : Memref sig .tc .vmem S4x1024x1024 .fp8e4m3) (Rect.unit (s := S4x1024x1024) off S1x1024x1024.size h).toLoadRect hl) kk) Qp) := by
  subst hoff
  exact wp_load_rect 𝒱₀ (c : Thread nD τ) none Set.univ (m := (Memref.whole cc0_scratch0 : Memref sig .tc .vmem S4x1024x1024 .fp8e4m3)) (r := slotR j) (k := kk) (f := f) (hl := hl)
    (S := (slotR j).set) (Finset.subset_of_eq (View.set_slice_whole _ _))

/-- of slot `j` of `recv`, -/
theorem step_ldrc (j : Fin 4) {off : Fin 3 → Nat} {h} (hoff : off = ![j.val, 0, 0]) {hl}
    (f : S4x1024x1024.Idx → Elt F .fp8e4m3) {kk : (S1x1024x1024.Idx → Elt F .fp8e4m3) → Prog (TpuEff nD τ sig (Elt F) Λ₀ .tc) α} :
    (rcPts c j f : sProp 𝕄)
      ⊢ iprop((rcPts c j f -∗ wp frame (wpE (defs₀ (F := F)) 𝒱₀ (c : Thread nD τ) none) Set.univ (kk (slotGet f j)) Qp)
          -∗ wp frame (wpE (defs₀ (F := F)) 𝒱₀ (c : Thread nD τ) none) Set.univ
              (.op (.load (Memref.whole cc0_scratch1 : Memref sig .tc .vmem S4x1024x1024 .fp8e4m3) (Rect.unit (s := S4x1024x1024) off S1x1024x1024.size h).toLoadRect hl) kk) Qp) := by
  subst hoff
  exact wp_load_rect 𝒱₀ (c : Thread nD τ) none Set.univ (m := (Memref.whole cc0_scratch1 : Memref sig .tc .vmem S4x1024x1024 .fp8e4m3)) (r := slotR j) (k := kk) (f := f) (hl := hl)
    (S := (slotR j).set) (Finset.subset_of_eq (View.set_slice_whole _ _))

/-- of slot `s` of the copies of `w`. -/
theorem step_ldws (s : Fin 2) {off : Fin 3 → Nat} {h} (hoff : off = ![s.val, 0, 0]) {hl}
    (f : S2x1024x2048.Idx → Elt F .f32) {kk : (S1x1024x2048.Idx → Elt F .f32) → Prog (TpuEff nD τ sig (Elt F) Λ₀ .tc) α} :
    (wsPts c s f : sProp 𝕄)
      ⊢ iprop((wsPts c s f -∗ wp frame (wpE (defs₀ (F := F)) 𝒱₀ (c : Thread nD τ) none) Set.univ (kk (wslotGet f s)) Qp)
          -∗ wp frame (wpE (defs₀ (F := F)) 𝒱₀ (c : Thread nD τ) none) Set.univ
              (.op (.load (Memref.whole cc0_scratch2 : Memref sig .tc .vmem S2x1024x2048 .f32) (Rect.unit (s := S2x1024x2048) off S1x1024x2048.size h).toLoadRect hl) kk) Qp) := by
  subst hoff
  exact wp_load_rect 𝒱₀ (c : Thread nD τ) none Set.univ (m := (Memref.whole cc0_scratch2 : Memref sig .tc .vmem S2x1024x2048 .f32)) (r := wslotR s) (k := kk) (f := f) (hl := hl)
    (S := (wslotR s).set) (Finset.subset_of_eq (View.set_slice_whole _ _))

/-- Slot `j` of `x8` as a store names it. -/
abbrev x8V (j : Fin 4) : View sig .tc .vmem S1x1024x1024 .fp8e4m3 := (Memref.whole cc0_scratch0 : Memref sig .tc .vmem S4x1024x1024 .fp8e4m3).access (slotR j)
omit [FloatOps F] in
theorem x8V_read (j : Fin 4) (g : (cc0_scratch0 : Ref sig .tc).ty.Contents (Elt F)) : slotGet g j = (x8V j).read (Elt F) g := rfl
omit [FloatOps F] in
/-- What a store of a whole slot leaves there. -/
theorem get_write (j : Fin 4) (f : (cc0_scratch0 : Ref sig .tc).ty.Contents (Elt F)) (V : S1x1024x1024.Idx → Elt F .fp8e4m3) :
    slotGet ((x8V j).write (Elt F) f V Finset.univ) j = V :=
  (x8V_read j _).trans (View.read_write_univ (v := x8V j) f V)

/-- The store of a block into slot `j` of `x8`: the slot then holds it. -/
theorem step_stx8 (j : Fin 4) {off : Fin 3 → Nat} {h} (hoff : off = ![j.val, 0, 0]) {hx hm}
    (f : S4x1024x1024.Idx → Elt F .fp8e4m3) (V : S1x1024x1024.Idx → Elt F .fp8e4m3) {kk : PUnit → Prog (TpuEff nD τ sig (Elt F) Λ₀ .tc) α} :
    (x8Pts c j f : sProp 𝕄)
      ⊢ iprop(((∃ f', ⌜slotGet f' j = V⌝ ∗ x8Pts c j f') -∗ wp frame (wpE (defs₀ (F := F)) 𝒱₀ (c : Thread nD τ) none) Set.univ (kk ⟨⟩) Qp)
          -∗ wp frame (wpE (defs₀ (F := F)) 𝒱₀ (c : Thread nD τ) none) Set.univ
              (.op (.store (Memref.whole cc0_scratch0 : Memref sig .tc .vmem S4x1024x1024 .fp8e4m3) (Rect.unit (s := S4x1024x1024) off S1x1024x1024.size h) V Finset.univ hx hm) kk) Qp) := by
  subst hoff
  have key : (x8Pts c j f : sProp 𝕄)
      ⊢ iprop((x8Pts c j (((Memref.whole cc0_scratch0 : Memref sig .tc .vmem S4x1024x1024 .fp8e4m3).access (slotR j)).write (Elt F) f V Finset.univ)
          -∗ wp frame (wpE (defs₀ (F := F)) 𝒱₀ (c : Thread nD τ) none) Set.univ (kk ⟨⟩) Qp)
        -∗ wp frame (wpE (defs₀ (F := F)) 𝒱₀ (c : Thread nD τ) none) Set.univ
            (.op (.store (Memref.whole cc0_scratch0 : Memref sig .tc .vmem S4x1024x1024 .fp8e4m3) (slotR j) V Finset.univ hx hm) kk) Qp) :=
    wp_store 𝒱₀ (c : Thread nD τ) none Set.univ (m := (Memref.whole cc0_scratch0 : Memref sig .tc .vmem S4x1024x1024 .fp8e4m3)) (r := slotR j) (w := V) (k := kk) (f := f)
      (Mk := Finset.univ) (hx := hx) (hm := hm) (S := (slotR j).set) (Finset.subset_of_eq (View.set_slice_whole _ _))
  iintro H Hk
  iapply key $$ H
  iintro H
  iapply Hk
  iexists _
  isplitr
  rotate_left
  · iexact H
  · ipureintro
    exact get_write j f V

theorem off00 : (![0, 0] : Fin 2 → Nat) = fun _ => 0 := funext fun a => by fin_cases a <;> rfl
theorem off0 : (![0] : Fin 1 → Nat) = fun _ => 0 := funext fun a => by fin_cases a; rfl

omit [FloatOps F] in
/-- A whole-buffer load reads the contents and a whole-buffer store replaces them. -/
theorem read_o (h) (f : (cc0_stg3_0 : Ref sig .tc).ty.Contents (Elt F)) :
    (Memref.whole cc0_stg3_0 : Memref sig .tc .vmem S1024x2048 .f32).view.readAt (Elt F) (Rect.unit (s := S1024x2048) ![0, 0] S1024x2048.size h).toLoadRect f = f :=
  Memref.readAt_unit_zero (Elt F) cc0_stg3_0 off00 _ f
omit [FloatOps F] in
theorem write_o (h) (f w : (cc0_stg3_0 : Ref sig .tc).ty.Contents (Elt F)) :
    ((Memref.whole cc0_stg3_0 : Memref sig .tc .vmem S1024x2048 .f32).access (Rect.unit (s := S1024x2048) ![0, 0] S1024x2048.size h) : View sig .tc _ _ _).write (Elt F) f w Finset.univ = w :=
  Memref.write_access_unit_zero_univ (Elt F) cc0_stg3_0 off00 _ f w
omit [FloatOps F] in
theorem read_sx (h) (f : (cc0_stg1_0 : Ref sig .tc).ty.Contents (Elt F)) :
    ((Memref.whole cc0_stg1_0 : Memref sig .tc .smem S1 .f32).access (Rect.unit (s := S1) ![0] S1.size h)).read (Elt F) f = f :=
  Memref.readAt_unit_zero (Elt F) cc0_stg1_0 off0 _ f
omit [FloatOps F] in
theorem read_sw (h) (f : (cc0_stg2_0 : Ref sig .tc).ty.Contents (Elt F)) :
    ((Memref.whole cc0_stg2_0 : Memref sig .tc .smem S1 .f32).access (Rect.unit (s := S1) ![0] S1.size h)).read (Elt F) f = f :=
  Memref.readAt_unit_zero (Elt F) cc0_stg2_0 off0 _ f

/-- The load of the result buffer, -/
theorem step_ldo {h hl} (f : S1024x2048.Idx → Elt F .f32) {kk : (S1024x2048.Idx → Elt F .f32) → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} f) -∗ wp frame (wpE (defs₀ (F := F)) 𝒱₀ (c : Thread nD τ) none) Set.univ (kk f) Qp)
          -∗ wp frame (wpE (defs₀ (F := F)) 𝒱₀ (c : Thread nD τ) none) Set.univ
              (.op (.load (Memref.whole cc0_stg3_0 : Memref sig .tc .vmem S1024x2048 .f32) (Rect.unit (s := S1024x2048) ![0, 0] S1024x2048.size h).toLoadRect hl) kk) Qp) := by
  have key := wp_load (defs := defs₀ (F := F)) (Γ := .empty) (Q := Qp) 𝒱₀ (c : Thread nD τ) none Set.univ (m := (Memref.whole cc0_stg3_0 : Memref sig .tc .vmem S1024x2048 .f32)) (k := kk) (f := f) (hl := hl) (q := fullShare)
    (r := (Rect.unit (s := S1024x2048) ![0, 0] S1024x2048.size h).toLoadRect) (S := Finset.univ) (Finset.subset_univ _)
  rw [read_o] at key
  exact key

/-- and its store. -/
theorem step_sto {h hx hm} (f V : S1024x2048.Idx → Elt F .f32) {kk : PUnit → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} V) -∗ wp frame (wpE (defs₀ (F := F)) 𝒱₀ (c : Thread nD τ) none) Set.univ (kk ⟨⟩) Qp)
          -∗ wp frame (wpE (defs₀ (F := F)) 𝒱₀ (c : Thread nD τ) none) Set.univ
              (.op (.store (Memref.whole cc0_stg3_0 : Memref sig .tc .vmem S1024x2048 .f32) (Rect.unit (s := S1024x2048) ![0, 0] S1024x2048.size h) V Finset.univ hx hm) kk) Qp) := by
  have key := wp_store (defs := defs₀ (F := F)) (Γ := .empty) (Q := Qp) 𝒱₀ (c : Thread nD τ) none Set.univ (m := (Memref.whole cc0_stg3_0 : Memref sig .tc .vmem S1024x2048 .f32)) (k := kk) (f := f) (hx := hx) (hm := hm)
    (r := (Rect.unit (s := S1024x2048) ![0, 0] S1024x2048.size h)) (w := V) (S := Finset.univ) (Finset.subset_univ _)
  rw [write_o] at key
  exact key

/-- The one element of a one-element buffer. -/
abbrev el (f : S1.Idx → Elt F .f32) : Elt F .f32 := f (Shape.Idx.first (numel1_S1.symm ▸ Nat.one_pos))

/-- The loads of the two scales. -/
theorem step_ldsx {h hw x} (f : S1.Idx → Elt F .f32) {kk : Elt F .f32 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (kk (f x)) Qp)
          -∗ wp frame (wpE (defs₀ (F := F)) 𝒱₀ (c : Thread nD τ) none) Set.univ
              (smemLoadElt (Memref.whole cc0_stg1_0 : Memref sig .tc .smem S1 .f32) (Rect.unit (s := S1) ![0] S1.size h) hw x kk) Qp) := by
  have key := wp_smemLoadElt (defs := defs₀ (F := F)) (Γ := .empty) (Q := Qp) 𝒱₀ (c : Thread nD τ) none Set.univ (m := (Memref.whole cc0_stg1_0 : Memref sig .tc .smem S1 .f32)) (k := kk) (f := f) (hw := hw) (x := x) (q := fullShare)
    (r := (Rect.unit (s := S1) ![0] S1.size h)) (S := Finset.univ) (Finset.subset_univ _)
  rw [read_sx] at key
  exact key
theorem step_ldsw {h hw x} (f : S1.Idx → Elt F .f32) {kk : Elt F .f32 → Prog (TpuEff nD τ sig (Elt F) Λ₀ .tc) α} :
    (((c : Thread nD τ).loc cc0_stg2_0) ↦{fullShare} f : sProp 𝕄)
      ⊢ iprop(((((c : Thread nD τ).loc cc0_stg2_0) ↦{fullShare} f) -∗ wp frame (wpE (defs₀ (F := F)) 𝒱₀ (c : Thread nD τ) none) Set.univ (kk (f x)) Qp)
          -∗ wp frame (wpE (defs₀ (F := F)) 𝒱₀ (c : Thread nD τ) none) Set.univ
              (smemLoadElt (Memref.whole cc0_stg2_0 : Memref sig .tc .smem S1 .f32) (Rect.unit (s := S1) ![0] S1.size h) hw x kk) Qp) := by
  have key := wp_smemLoadElt (defs := defs₀ (F := F)) (Γ := .empty) (Q := Qp) 𝒱₀ (c : Thread nD τ) none Set.univ (m := (Memref.whole cc0_stg2_0 : Memref sig .tc .smem S1 .f32)) (k := kk) (f := f) (hw := hw) (x := x) (q := fullShare)
    (r := (Rect.unit (s := S1) ![0] S1.size h)) (S := Finset.univ) (Finset.subset_univ _)
  rw [read_sw] at key
  exact key

end Steps

end Cert.KernelIdeal.Proto

end
-- ==== Proof.KernelIdealBody.lean ====
/-
# The kernel's body on one device

The program's own parts in order, each from what it needs to what it leaves, at a symbolic device `c`; then the body whole.
-/
module

public import proofs.«01_k».proof.Proof.KernelIdealSteps

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result as the kernel computes it -/

section Values
variable (c : Dev nD)

/-- The running sum after the device's own block, then after the blocks from 1, 3 and 2 places on; -/
def acc1 : S1024x2048.Idx → Elt F .f32 := k0_pay5 (xq m c c) (wBlk m c c)
def acc2 : S1024x2048.Idx → Elt F .f32 := k0_pay6 (acc1 m c) (xq m (sh 1 c) c) (wBlk m c (sh 1 c))
def acc3 : S1024x2048.Idx → Elt F .f32 :=
  k0_pay10 (k0_pay7 (acc2 m c)) (k0_pay8 (xq m (sh 3 c) c)) (k0_pay9 (wBlk m c (sh 3 c))) (constant S1024x2048 .f32 0x00000000#32)
def acc4 : S1024x2048.Idx → Elt F .f32 := k0_pay11 (acc3 m c) (xq m (sh 2 c) c) (wBlk m c (sh 2 c))
/-- and the result: that sum scaled, times its logistic function. -/
def outV : S1024x2048.Idx → Elt F .f32 := k0_pay12 (acc4 m c) (el (sxAt m c)) (el (swAt m c))

/-- The staged left factor, the result buffer and the two scales, held whole. -/
def xPts : sProp 𝕄 := ((c : Thread nD τ).loc cc0_stg0_0) ↦{fullShare} xAt m c
def oPts (f : S1024x2048.Idx → Elt F .f32) : sProp 𝕄 := ((c : Thread nD τ).loc cc0_stg3_0) ↦{fullShare} f
def sxPts : sProp 𝕄 := ((c : Thread nD τ).loc cc0_stg1_0) ↦{fullShare} sxAt m c
def swPts : sProp 𝕄 := ((c : Thread nD τ).loc cc0_stg2_0) ↦{fullShare} swAt m c

/-- Slot `sh k c` of `x8` with the block for the device `k` places on in it. -/
def x8Has (k : Fin 4) : sProp 𝕄 := iprop(∃ f, ⌜slotGet f (sh k c) = xq m c (sh k c)⌝ ∗ x8Pts c (sh k c) f)

theorem x8Has_intro (k : Fin 4) (f : S4x1024x1024.Idx → Elt F .fp8e4m3) (hf : slotGet f (sh k c) = xq m c (sh k c)) :
    (x8Pts c (sh k c) f : sProp 𝕄) ⊢ x8Has m c k := by
  unfold x8Has
  iintro H
  iexists f
  isplitr; · ipureintro; exact hf
  iexact H

end Values

section Parts

variable (K : Dev nD × Fin 10 → ℕ) (c : Dev nD)

/-- The first copy of `w`, the device's own row block into slot 0, and the first signal. -/
theorem part2 (v2 : BitVec 32) (O : CellTallies nD τ sig Unit) (Qp : _ → sProp 𝕄) :
    iprop(records m K ∗ waPts m c c ∗ (∃ f, wsPts (F := F) c 0 f) ∗ dutyTok ER (cell c 1) 0 0 ∗ ow c (O + oB 1 c) ∗ dutyTok ER (cell (sh 1 c) 0) 0 (-1) ∗ (∃ f, rcPts (F := F) c (sh 1 c) f))
      ⊢ iprop((∀ v67, (cred (tallyAt (cell c 1) () Nw) ∗ ow c O) -∗ Qp ⟨SemArray.scalar (sig.barrier 0 rfl), v67, 0#32⟩)
        -∗ wp frame (wpE (defs₀ (F := F)) 𝒱₀ (c : Thread nD τ) none) Set.univ
          (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v2) Qp) := by
  simp only [k0_part2_eq_skeleton]; unfold k0_part2_skel
  simp only [semSignalWord, semWaitWord, Prog.lift, Prog.bind_op, Prog.bind_ret, Prog.pure_eq_ret]
  iintro ⟨#HR, Hw, Hs, Htw, HO, Ht1, Hr1⟩ Hk
  ihave #Hr := records_reached m K c 1 $$ HR
  iapply (step_copy m K c 0 c 1 0 rfl (by decide) rfl (congrArg SemLoc.dma semW0.symm) (off1_eq c) rfl) $$ [Hw Hs Htw]
  · isplitr; · iexact HR
    isplitr; · iexact Hr
    isplitl [Hw]; · iexact Hw
    isplitl [Hs]; · iexact Hs
    iexact Htw
  iintro Hc
  iapply (step_signal m K c 1 (by decide) (dev1_eq c) (by decide) _) $$ [HO Ht1 Hr1]
  · isplitr; · iexact HR
    isplitl [HO]; · iexact HO
    isplitl [Ht1]; · iexact Ht1
    iexact Hr1
  iintro HO
  rw [wp_ret]
  imodintro
  iapply Hk $$ %_
  isplitl [Hc]; · iexact Hc
  iexact HO

/-- The other two signals, the wait for the three that come in, and the rounding of the first block sent. -/
theorem part3 (v2 v67 v0 : BitVec 32) (Qp : _ → sProp 𝕄) :
    iprop(records m K ∗ levAts L lv ∗ ow c (oR c + oB 3 c + oB 2 c) ∗ dutyTok ER (cell (sh 2 c) 0) 0 (-2) ∗ (∃ f, rcPts (F := F) c (sh 2 c) f) ∗ dutyTok ER (cell (sh 3 c) 0) 0 (-3) ∗ (∃ f, rcPts (F := F) c (sh 3 c) f) ∗ cred (tallyAt (cell c 0) () 3) ∗ atPos ER (cell c 0) 0 ∅ 0 ∗ xPts m c ∗ (∃ f, x8Pts (F := F) c (sh 1 c) f))
      ⊢ iprop((∀ v92, (ow c (oR c) ∗ atPos ER (cell c 0) 1 ∅ 0 ∗ (∃ f, rcPts (F := F) (sh 1 c) c f) ∗ (∃ f, rcPts (F := F) (sh 2 c) c f) ∗ (∃ f, rcPts (F := F) (sh 3 c) c f) ∗ xPts m c ∗ (∃ f, x8Pts (F := F) c (sh 1 c) f)) -∗ Qp ⟨v92, k0_pay1 (xrowGet (xAt m c) (sh 1 c))⟩)
        -∗ wp frame (wpE (defs₀ (F := F)) 𝒱₀ (c : Thread nD τ) none) Set.univ
          (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v2 (SemArray.scalar (sig.barrier 0 rfl)) v67 v0) Qp) := by
  simp only [k0_part3_eq_skeleton]; unfold k0_part3_skel
  simp only [semSignalWord, semWaitWord, Prog.lift, Prog.bind_op, Prog.bind_ret, Prog.pure_eq_ret]
  iintro ⟨#HR, #HL, HO, Ht2, Hr2, Ht3, Hr3, Hcb, Hab, Hx, ⟨%f, H8⟩⟩ Hk
  unfold xPts
  iapply (step_signal m K c 2 (by decide) (dev2_eq c) (by decide) _) $$ [HO Ht2 Hr2]
  · isplitr; · iexact HR
    isplitl [HO]; · iexact HO
    isplitl [Ht2]; · iexact Ht2
    iexact Hr2
  iintro HO
  iapply (step_signal m K c 3 (by decide) (dev3_eq c) (by decide) _) $$ [HO Ht3 Hr3]
  · isplitr; · iexact HR
    isplitl [HO]; · iexact HO
    isplitl [Ht3]; · iexact Ht3
    iexact Hr3
  iintro HO
  iapply (step_barwait m K c (by decide) (oR c) (levAts L lv) (mayWait_bar c)) $$ [HO Hcb Hab]
  · isplitr; · iexact HR
    isplitr; · iexact HL
    isplitl [HO]; · iexact HO
    isplitl [Hcb]; · iexact Hcb
    iexact Hab
  iintro ⟨HO, Hab, Hr1, Hr2, Hr3⟩
  iapply (step_ldx c (sh 1 c) (off2_1 c) _) $$ Hx
  iintro Hx
  iapply (step_ldx8 c (sh 1 c) (off3_1 c) _) $$ H8
  iintro H8
  rw [wp_ret]
  imodintro
  iapply Hk $$ %_
  isplitl [HO]; · iexact HO
  isplitl [Hab]; · iexact Hab
  isplitl [Hr1]; · iexact Hr1
  isplitl [Hr2]; · iexact Hr2
  isplitl [Hr3]; · iexact Hr3
  isplitl [Hx]; · iexact Hx
  iexists f; iexact H8

/-- The transfer of that block to the next device, and the rounding of the block for the device three places on. -/
theorem part4 (v2 v92 : BitVec 32) (O : CellTallies nD τ sig Unit) (Qp : _ → sProp 𝕄) :
    iprop(records m K ∗ (∃ f, x8Pts (F := F) c (sh 1 c) f) ∗ (∃ f, rcPts (F := F) (sh 1 c) c f) ∗ ow c (O + oV 1 c) ∗ dutyTok ER (cell c 3) 0 0 ∗ dutyTok ER (cell (sh 1 c) 9) 0 0 ∗ xPts m c ∗ (∃ f, x8Pts (F := F) c (sh 3 c) f))
      ⊢ iprop(((cred (tallyAt (cell c 3) () Nx) ∗ ow c O ∗ xPts m c ∗ x8Has m c 3) -∗ Qp ⟨⟩)
        -∗ wp frame (wpE (defs₀ (F := F)) 𝒱₀ (c : Thread nD τ) none) Set.univ
          (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v2 v92 (k0_pay1 (xrowGet (xAt m c) (sh 1 c)))) Qp) := by
  simp only [k0_part4_eq_skeleton]; unfold k0_part4_skel
  simp only [semSignalWord, semWaitWord, Prog.lift, Prog.bind_op, Prog.bind_ret, Prog.pure_eq_ret]
  iintro ⟨#HR, ⟨%f, H8⟩, Hr, HO, Htx, Htr, Hx, ⟨%g, H9⟩⟩ Hk
  unfold xPts
  iapply (step_stx8 c (sh 1 c) (off3_1 c) _ _) $$ H8
  iintro ⟨%f', %hf, H8⟩
  iapply (step_send m K c 1 (by decide) 3 9 (by decide) (by decide) (dev4_eq c) (congrArg SemLoc.dma semS0.symm) (semR c (k0_off4_eq c)) (off6_1 c) (k0_off5_eq c) f' hf _) $$ [H8 Hr HO Htx Htr]
  · isplitr; · iexact HR
    isplitl [H8]; · iexact H8
    isplitl [Hr]; · iexact Hr
    isplitl [HO]; · iexact HO
    isplitl [Htx]; · iexact Htx
    iexact Htr
  iintro ⟨Hcs, HO⟩
  iapply (step_ldx c (sh 3 c) (off2_3 c) _) $$ Hx
  iintro Hx
  iapply (step_ldx8 c (sh 3 c) (off3_3 c) _) $$ H9
  iintro H9
  iapply (step_stx8 c (sh 3 c) (off3_3 c) _ _) $$ H9
  iintro ⟨%g', %hg, H9⟩
  rw [wp_ret]
  imodintro
  iapply Hk
  isplitl [Hcs]; · iexact Hcs
  isplitl [HO]; · iexact HO
  isplitl [Hx]; · iexact Hx
  iapply (x8Has_intro m c 3 g' hg); iexact H9

/-- The transfer to the device three places on, and the rounding and the transfer of the block for the device two places on. -/
theorem part5 (v2 : BitVec 32) (O : CellTallies nD τ sig Unit) (Qp : _ → sProp 𝕄) :
    iprop(records m K ∗ x8Has m c 3 ∗ (∃ f, rcPts (F := F) (sh 3 c) c f) ∗ ow c (O + oV 2 c + oV 3 c) ∗ dutyTok ER (cell c 5) 0 0 ∗ dutyTok ER (cell (sh 3 c) 7) 0 0 ∗ xPts m c ∗ (∃ f, x8Pts (F := F) c (sh 2 c) f) ∗ (∃ f, rcPts (F := F) (sh 2 c) c f) ∗ dutyTok ER (cell c 4) 0 0 ∗ dutyTok ER (cell (sh 2 c) 8) 0 0)
      ⊢ iprop(((cred (tallyAt (cell c 5) () Nx) ∗ cred (tallyAt (cell c 4) () Nx) ∗ ow c O ∗ xPts m c) -∗ Qp 1024#32)
        -∗ wp frame (wpE (defs₀ (F := F)) 𝒱₀ (c : Thread nD τ) none) Set.univ
          (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v2) Qp) := by
  simp only [k0_part5_eq_skeleton]; unfold k0_part5_skel
  simp only [semSignalWord, semWaitWord, Prog.lift, Prog.bind_op, Prog.bind_ret, Prog.pure_eq_ret]
  iintro ⟨#HR, H8', Hr, HO, Htx, Htr, Hx, ⟨%g, H9⟩, Hr', Htx', Htr'⟩ Hk
  unfold xPts x8Has
  icases H8' with ⟨%f', %hf, H8⟩
  iapply (step_send m K c 3 (by decide) 5 7 (by decide) (by decide) (dev5_eq c) (congrArg SemLoc.dma semS2.symm) (semR c (k0_off4_eq c)) (off6_3 c) (k0_off5_eq c) f' hf _) $$ [H8 Hr HO Htx Htr]
  · isplitr; · iexact HR
    isplitl [H8]; · iexact H8
    isplitl [Hr]; · iexact Hr
    isplitl [HO]; · iexact HO
    isplitl [Htx]; · iexact Htx
    iexact Htr
  iintro ⟨Hcs, HO⟩
  iapply (step_ldx c (sh 2 c) (off2_2 c) _) $$ Hx
  iintro Hx
  iapply (step_ldx8 c (sh 2 c) (off3_2 c) _) $$ H9
  iintro H9
  iapply (step_stx8 c (sh 2 c) (off3_2 c) _ _) $$ H9
  iintro ⟨%g', %hg, H9⟩
  iapply (step_send m K c 2 (by decide) 4 8 (by decide) (by decide) (dev6_eq c) (congrArg SemLoc.dma semS1.symm) (semR c (k0_off4_eq c)) (off6_2 c) (k0_off5_eq c) g' hg _) $$ [H9 Hr' HO Htx' Htr']
  · isplitr; · iexact HR
    isplitl [H9]; · iexact H9
    isplitl [Hr']; · iexact Hr'
    isplitl [HO]; · iexact HO
    isplitl [Htx']; · iexact Htx'
    iexact Htr'
  iintro ⟨Hcs', HO⟩
  rw [wp_ret]
  imodintro
  iapply Hk
  isplitl [Hcs]; · iexact Hcs
  isplitl [Hcs']; · iexact Hcs'
  isplitl [HO]; · iexact HO
  iexact Hx

/-- The copy of the next row block of `w` into slot 1, the device's own block rounded, its row block of `w` awaited, and their product. -/
theorem part6 (v2 v13 v0 : BitVec 32) (Qp : _ → sProp 𝕄) :
    iprop(records m K ∗ waPts m c (sh 1 c) ∗ (∃ f, wsPts (F := F) c 1 f) ∗ dutyTok ER (cell c 2) 0 0 ∗ xPts m c ∗ (∃ f, x8Pts (F := F) c c f) ∗ ow c 0 ∗ cred (tallyAt (cell c 1) () Nw) ∗ atPos ER (cell c 1) 0 ∅ 0 ∗ (∃ f, oPts (F := F) c f))
      ⊢ iprop((∀ v201, (cred (tallyAt (cell c 2) () Nw) ∗ xPts m c ∗ (∃ f, x8Pts (F := F) c c f) ∗ ow c 0 ∗ atPos ER (cell c 1) 1 ∅ 0 ∗ reached ER (cell c 1) 1 ∗ (∃ f, wsPts (F := F) c 0 f) ∗ waPts m c c ∗ oPts c (acc1 m c)) -∗ Qp v201)
        -∗ wp frame (wpE (defs₀ (F := F)) 𝒱₀ (c : Thread nD τ) none) Set.univ
          (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v2 v13 v0) Qp) := by
  simp only [k0_part6_eq_skeleton]; unfold k0_part6_skel
  simp only [semSignalWord, semWaitWord, Prog.lift, Prog.bind_op, Prog.bind_ret, Prog.pure_eq_ret]
  iintro ⟨#HR, Hw1, Hs1, Ht1, Hx, ⟨%g, H8⟩, HO, Hc0, Ha0, ⟨%fo, Ho⟩⟩ Hk
  unfold xPts oPts
  ihave #Hr := records_reached m K c 2 $$ HR
  iapply (step_copy m K c 1 (sh 1 c) 2 0 rfl (by decide) rfl (congrArg SemLoc.dma semW1.symm) (off7_1 c) rfl) $$ [Hw1 Hs1 Ht1]
  · isplitr; · iexact HR
    isplitr; · iexact Hr
    isplitl [Hw1]; · iexact Hw1
    isplitl [Hs1]; · iexact Hs1
    iexact Ht1
  iintro Hc1
  iapply (step_ldx c c (k0_off8_eq c) _) $$ Hx
  iintro Hx
  iapply (step_ldx8 c c (k0_off9_eq c) _) $$ H8
  iintro H8
  iapply (step_stx8 c c (k0_off9_eq c) _ _) $$ H8
  iintro ⟨%g', %hg, H8⟩
  iapply (step_wait m K c 1 0 (by decide) Nw rfl (wsGot m c 0 (c)) rfl (congrArg SemLoc.dma semW0.symm) cred_ws) $$ [HO Hc0 Ha0]
  · isplitr; · iexact HR
    isplitl [HO]; · iexact HO
    isplitl [Hc0]; · iexact Hc0
    iexact Ha0
  iintro ⟨HO, Ha0, #Hr1, Hws⟩
  unfold wsGot
  icases Hws with ⟨⟨%fw, %hw, Hws⟩, Hwa⟩
  iapply (step_ldx8 c c (k0_off9_eq c) _) $$ H8
  iintro H8
  iapply (step_ldws c 0 rfl _) $$ Hws
  iintro Hws
  iapply (step_ldo c _) $$ Ho
  iintro Ho
  iapply (step_sto c _ _) $$ Ho
  iintro Ho
  rw [hg, hw]
  rw [wp_ret]
  imodintro
  iapply Hk $$ %_
  isplitl [Hc1]; · iexact Hc1
  isplitl [Hx]; · iexact Hx
  isplitl [H8]; · iexists g'; iexact H8
  isplitl [HO]; · iexact HO
  isplitl [Ha0]; · iexact Ha0
  isplitr; · iexact Hr1
  isplitl [Hws]; · iexists fw; iexact Hws
  isplitl [Hwa]; · iexact Hwa
  iexact Ho

/-- The block from the next device and the row block of `w` awaited, the third copy started, and the sum with their product. -/
theorem part7 (v13 v24 v201 : BitVec 32) (Qp : _ → sProp 𝕄) :
    iprop(records m K ∗ ow c 0 ∗ cred (tallyAt (cell c 7) () Nx) ∗ atPos ER (cell c 7) 0 ∅ 0 ∗ cred (tallyAt (cell c 2) () Nw) ∗ atPos ER (cell c 2) 0 ∅ 0 ∗ reached ER (cell c 1) 1 ∗ waPts m c (sh 3 c) ∗ (∃ f, wsPts (F := F) c 0 f) ∗ dutyTok ER (cell c 1) 1 0 ∗ oPts c (acc1 m c))
      ⊢ iprop(((ow c 0 ∗ atPos ER (cell c 7) 1 ∅ 0 ∗ (∃ f, rcPts (F := F) c (sh 1 c) f) ∗ atPos ER (cell c 2) 1 ∅ 0 ∗ reached ER (cell c 2) 1 ∗ (∃ f, wsPts (F := F) c 1 f) ∗ waPts m c (sh 1 c) ∗ cred (tallyAt (cell c 1) () Nw) ∗ oPts c (acc1 m c)) -∗ Qp (k0_pay6 (acc1 m c) (xq m (sh 1 c) c) (wBlk m c (sh 1 c))))
        -∗ wp frame (wpE (defs₀ (F := F)) 𝒱₀ (c : Thread nD τ) none) Set.univ
          (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v13 v24 v201) Qp) := by
  simp only [k0_part7_eq_skeleton]; unfold k0_part7_skel
  simp only [semSignalWord, semWaitWord, Prog.lift, Prog.bind_op, Prog.bind_ret, Prog.pure_eq_ret]
  iintro ⟨#HR, HO, Hcr, Har, Hc1, Ha1, #Hr0, Hwn, Hs0, Ht0, Ho⟩ Hk
  unfold oPts
  iapply (step_wait m K c 7 0 (by decide) Nx rfl (rcGot m c (sh 1 c)) rfl (congrArg SemLoc.dma (semR (sh 1 c) (off10_1 c)).symm) cred_rc) $$ [HO Hcr Har]
  · isplitr; · iexact HR
    isplitl [HO]; · iexact HO
    isplitl [Hcr]; · iexact Hcr
    iexact Har
  iintro ⟨HO, Har, -, Hrc⟩
  unfold rcGot
  icases Hrc with ⟨%fr, %hr, Hrc⟩
  iapply (step_wait m K c 2 0 (by decide) Nw rfl (wsGot m c 1 (sh 1 c)) rfl (congrArg SemLoc.dma semW1.symm) cred_ws) $$ [HO Hc1 Ha1]
  · isplitr; · iexact HR
    isplitl [HO]; · iexact HO
    isplitl [Hc1]; · iexact Hc1
    iexact Ha1
  iintro ⟨HO, Ha1, #Hr1, Hws⟩
  unfold wsGot
  icases Hws with ⟨⟨%fw, %hw, Hws⟩, Hwa⟩
  iapply (step_copy m K c 0 (sh 3 c) 1 1 rfl (by decide) rfl (congrArg SemLoc.dma semW0.symm) (off7_3 c) rfl) $$ [Hwn Hs0 Ht0]
  · isplitr; · iexact HR
    isplitr; · iexact Hr0
    isplitl [Hwn]; · iexact Hwn
    isplitl [Hs0]; · iexact Hs0
    iexact Ht0
  iintro Hc0
  iapply (step_ldo c _) $$ Ho
  iintro Ho
  iapply (step_ldrc c (sh 1 c) (off3_1 c) _) $$ Hrc
  iintro Hrc
  iapply (step_ldws c 1 rfl _) $$ Hws
  iintro Hws
  iapply (step_ldo c _) $$ Ho
  iintro Ho
  rw [hr, hw]
  rw [wp_ret]
  imodintro
  iapply Hk
  isplitl [HO]; · iexact HO
  isplitl [Har]; · iexact Har
  isplitl [Hrc]; · iexists fr; iexact Hrc
  isplitl [Ha1]; · iexact Ha1
  isplitr; · iexact Hr1
  isplitl [Hws]; · iexists fw; iexact Hws
  isplitl [Hwa]; · iexact Hwa
  isplitl [Hc0]; · iexact Hc0
  iexact Ho

/-- That sum stored, the block from three places on and its row block of `w` awaited, and the last copy started. -/
theorem part8 (v24 v35 : BitVec 32) (Qp : _ → sProp 𝕄) :
    iprop(records m K ∗ oPts c (acc1 m c) ∗ ow c 0 ∗ cred (tallyAt (cell c 9) () Nx) ∗ atPos ER (cell c 9) 0 ∅ 0 ∗ cred (tallyAt (cell c 1) () Nw) ∗ atPos ER (cell c 1) 1 ∅ 0 ∗ reached ER (cell c 2) 1 ∗ waPts m c (sh 2 c) ∗ (∃ f, wsPts (F := F) c 1 f) ∗ dutyTok ER (cell c 2) 1 0)
      ⊢ iprop(((ow c 0 ∗ atPos ER (cell c 9) 1 ∅ 0 ∗ (∃ f, rcPts (F := F) c (sh 3 c) f) ∗ atPos ER (cell c 1) 2 ∅ 0 ∗ (∃ f, wsPts (F := F) c 0 f) ∗ waPts m c (sh 3 c) ∗ cred (tallyAt (cell c 2) () Nw) ∗ oPts c (acc2 m c)) -∗ Qp ⟨k0_pay7 (k0_pay6 (acc1 m c) (xq m (sh 1 c) c) (wBlk m c (sh 1 c))), k0_pay8 (xq m (sh 3 c) c), k0_pay9 (wBlk m c (sh 3 c)), constant S1024x2048 .f32 0x00000000#32⟩)
        -∗ wp frame (wpE (defs₀ (F := F)) 𝒱₀ (c : Thread nD τ) none) Set.univ
          (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v24 v35 (k0_pay6 (acc1 m c) (xq m (sh 1 c) c) (wBlk m c (sh 1 c)))) Qp) := by
  simp only [k0_part8_eq_skeleton]; unfold k0_part8_skel
  simp only [semSignalWord, semWaitWord, Prog.lift, Prog.bind_op, Prog.bind_ret, Prog.pure_eq_ret]
  iintro ⟨#HR, Ho, HO, Hcr, Har, Hc1, Ha1, #Hr0, Hwn, Hs0, Ht0⟩ Hk
  unfold oPts
  iapply (step_sto c _ _) $$ Ho
  iintro Ho
  iapply (step_wait m K c 9 0 (by decide) Nx rfl (rcGot m c (sh 3 c)) rfl (congrArg SemLoc.dma (semR (sh 3 c) (off10_3 c)).symm) cred_rc) $$ [HO Hcr Har]
  · isplitr; · iexact HR
    isplitl [HO]; · iexact HO
    isplitl [Hcr]; · iexact Hcr
    iexact Har
  iintro ⟨HO, Har, -, Hrc⟩
  unfold rcGot
  icases Hrc with ⟨%fr, %hr, Hrc⟩
  iapply (step_wait m K c 1 1 (by decide) Nw rfl (wsGot m c 0 (sh 3 c)) rfl (congrArg SemLoc.dma semW0.symm) cred_ws) $$ [HO Hc1 Ha1]
  · isplitr; · iexact HR
    isplitl [HO]; · iexact HO
    isplitl [Hc1]; · iexact Hc1
    iexact Ha1
  iintro ⟨HO, Ha1, #Hr1, Hws⟩
  unfold wsGot
  icases Hws with ⟨⟨%fw, %hw, Hws⟩, Hwa⟩
  iapply (step_copy m K c 1 (sh 2 c) 2 1 rfl (by decide) rfl (congrArg SemLoc.dma semW1.symm) (off7_2 c) rfl) $$ [Hwn Hs0 Ht0]
  · isplitr; · iexact HR
    isplitr; · iexact Hr0
    isplitl [Hwn]; · iexact Hwn
    isplitl [Hs0]; · iexact Hs0
    iexact Ht0
  iintro Hc0
  iapply (step_ldo c _) $$ Ho
  iintro Ho
  iapply (step_ldrc c (sh 3 c) (off3_3 c) _) $$ Hrc
  iintro Hrc
  iapply (step_ldws c 0 rfl _) $$ Hws
  iintro Hws
  rw [hr, hw]
  rw [wp_ret]
  imodintro
  iapply Hk
  isplitl [HO]; · iexact HO
  isplitl [Har]; · iexact Har
  isplitl [Hrc]; · iexists fr; iexact Hrc
  isplitl [Ha1]; · iexact Ha1
  isplitl [Hws]; · iexists fw; iexact Hws
  isplitl [Hwa]; · iexact Hwa
  isplitl [Hc0]; · iexact Hc0
  iexact Ho

/-- The sum with that product stored, the block from two places on and its row block of `w` awaited, and the whole sum. -/
theorem part9 (v35 : BitVec 32) (Qp : _ → sProp 𝕄) :
    iprop(records m K ∗ oPts c (acc2 m c) ∗ ow c 0 ∗ cred (tallyAt (cell c 8) () Nx) ∗ atPos ER (cell c 8) 0 ∅ 0 ∗ cred (tallyAt (cell c 2) () Nw) ∗ atPos ER (cell c 2) 1 ∅ 0)
      ⊢ iprop(((ow c 0 ∗ atPos ER (cell c 8) 1 ∅ 0 ∗ (∃ f, rcPts (F := F) c (sh 2 c) f) ∗ atPos ER (cell c 2) 2 ∅ 0 ∗ (∃ f, wsPts (F := F) c 1 f) ∗ waPts m c (sh 2 c) ∗ oPts c (acc4 m c)) -∗ Qp ⟨⟩)
        -∗ wp frame (wpE (defs₀ (F := F)) 𝒱₀ (c : Thread nD τ) none) Set.univ
          (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c v35 (k0_pay7 (k0_pay6 (acc1 m c) (xq m (sh 1 c) c) (wBlk m c (sh 1 c)))) (k0_pay8 (xq m (sh 3 c) c)) (k0_pay9 (wBlk m c (sh 3 c))) (constant S1024x2048 .f32 0x00000000#32)) Qp) := by
  simp only [k0_part9_eq_skeleton]; unfold k0_part9_skel
  simp only [semSignalWord, semWaitWord, Prog.lift, Prog.bind_op, Prog.bind_ret, Prog.pure_eq_ret]
  iintro ⟨#HR, Ho, HO, Hcr, Har, Hc1, Ha1⟩ Hk
  unfold oPts
  iapply (step_ldo c _) $$ Ho
  iintro Ho
  iapply (step_sto c _ _) $$ Ho
  iintro Ho
  iapply (step_wait m K c 8 0 (by decide) Nx rfl (rcGot m c (sh 2 c)) rfl (congrArg SemLoc.dma (semR (sh 2 c) (off10_2 c)).symm) cred_rc) $$ [HO Hcr Har]
  · isplitr; · iexact HR
    isplitl [HO]; · iexact HO
    isplitl [Hcr]; · iexact Hcr
    iexact Har
  iintro ⟨HO, Har, -, Hrc⟩
  unfold rcGot
  icases Hrc with ⟨%fr, %hr, Hrc⟩
  iapply (step_wait m K c 2 1 (by decide) Nw rfl (wsGot m c 1 (sh 2 c)) rfl (congrArg SemLoc.dma semW1.symm) cred_ws) $$ [HO Hc1 Ha1]
  · isplitr; · iexact HR
    isplitl [HO]; · iexact HO
    isplitl [Hc1]; · iexact Hc1
    iexact Ha1
  iintro ⟨HO, Ha1, #Hr1, Hws⟩
  unfold wsGot
  icases Hws with ⟨⟨%fw, %hw, Hws⟩, Hwa⟩
  iapply (step_ldo c _) $$ Ho
  iintro Ho
  iapply (step_ldrc c (sh 2 c) (off3_2 c) _) $$ Hrc
  iintro Hrc
  iapply (step_ldws c 1 rfl _) $$ Hws
  iintro Hws
  iapply (step_ldo c _) $$ Ho
  iintro Ho
  iapply (step_sto c _ _) $$ Ho
  iintro Ho
  rw [hr, hw]
  rw [wp_ret]
  imodintro
  iapply Hk
  isplitl [HO]; · iexact HO
  isplitl [Har]; · iexact Har
  isplitl [Hrc]; · iexists fr; iexact Hrc
  isplitl [Ha1]; · iexact Ha1
  isplitl [Hws]; · iexists fw; iexact Hws
  isplitl [Hwa]; · iexact Hwa
  iexact Ho

/-- The sum scaled and activated, and the waits for two of the transfers sent. -/
theorem part10 (Qp : _ → sProp 𝕄) :
    iprop(records m K ∗ oPts c (acc4 m c) ∗ sxPts m c ∗ swPts m c ∗ ow c 0 ∗ cred (tallyAt (cell c 3) () Nx) ∗ atPos ER (cell c 3) 0 ∅ 0 ∗ cred (tallyAt (cell c 5) () Nx) ∗ atPos ER (cell c 5) 0 ∅ 0)
      ⊢ iprop(((oPts c (outV m c) ∗ sxPts m c ∗ swPts m c ∗ ow c 0 ∗ atPos ER (cell c 3) 1 ∅ 0 ∗ (∃ f, x8Pts (F := F) c (sh 1 c) f) ∗ atPos ER (cell c 5) 1 ∅ 0 ∗ (∃ f, x8Pts (F := F) c (sh 3 c) f)) -∗ Qp ⟨⟩)
        -∗ wp frame (wpE (defs₀ (F := F)) 𝒱₀ (c : Thread nD τ) none) Set.univ
          (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 c) Qp) := by
  simp only [k0_part10_eq_skeleton]; unfold k0_part10_skel
  simp only [semSignalWord, semWaitWord, Prog.lift, Prog.bind_op, Prog.bind_ret, Prog.pure_eq_ret]
  iintro ⟨#HR, Ho, Hx, Hw, HO, Hc1, Ha1, Hc3, Ha3⟩ Hk
  unfold oPts sxPts swPts
  simp only [smemLoad, smemLoadElt_bind, Prog.bind_ret]
  iapply (step_ldo c _) $$ Ho
  iintro Ho
  iapply (step_ldsx c _) $$ Hx
  iintro Hx
  iapply (step_ldsw c _) $$ Hw
  iintro Hw
  iapply (step_ldo c _) $$ Ho
  iintro Ho
  iapply (step_sto c _ _) $$ Ho
  iintro Ho
  iapply (step_wait m K c 3 0 (by decide) Nx rfl (iprop(∃ f, x8Pts (F := F) c (sh 1 c) f)) rfl (congrArg SemLoc.dma semS0.symm) cred_x8) $$ [HO Hc1 Ha1]
  · isplitr; · iexact HR
    isplitl [HO]; · iexact HO
    isplitl [Hc1]; · iexact Hc1
    iexact Ha1
  iintro ⟨HO, Ha1, -, H81⟩
  iapply (step_wait m K c 5 0 (by decide) Nx rfl (iprop(∃ f, x8Pts (F := F) c (sh 3 c) f)) rfl (congrArg SemLoc.dma semS2.symm) cred_x8) $$ [HO Hc3 Ha3]
  · isplitr; · iexact HR
    isplitl [HO]; · iexact HO
    isplitl [Hc3]; · iexact Hc3
    iexact Ha3
  iintro ⟨HO, Ha3, -, H83⟩
  rw [wp_ret]
  imodintro
  iapply Hk
  isplitl [Ho]; · iexact Ho
  isplitl [Hx]; · iexact Hx
  isplitl [Hw]; · iexact Hw
  isplitl [HO]; · iexact HO
  isplitl [Ha1]; · iexact Ha1
  isplitl [H81]; · iexact H81
  isplitl [Ha3]; · iexact Ha3
  iexact H83

/-- What the body needs on device `c` besides the records; -/
def bodyNeeds : sProp 𝕄 :=
  iprop(levAts L lv
    ∗ ow c (O₀ c)
    ∗ (dutyTok ER (cell (sh 1 c) 0) 0 (-1) ∗ dutyTok ER (cell (sh 2 c) 0) 0 (-2) ∗ dutyTok ER (cell (sh 3 c) 0) 0 (-3))
    ∗ (dutyTok ER (cell c 1) 0 0 ∗ dutyTok ER (cell c 1) 1 0 ∗ dutyTok ER (cell c 2) 0 0 ∗ dutyTok ER (cell c 2) 1 0)
    ∗ (dutyTok ER (cell c 3) 0 0 ∗ dutyTok ER (cell c 4) 0 0 ∗ dutyTok ER (cell c 5) 0 0)
    ∗ (dutyTok ER (cell (sh 1 c) 9) 0 0 ∗ dutyTok ER (cell (sh 2 c) 8) 0 0 ∗ dutyTok ER (cell (sh 3 c) 7) 0 0)
    ∗ (atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0 ∗ atPos ER (cell c 5) 0 ∅ 0
        ∗ atPos ER (cell c 7) 0 ∅ 0 ∗ atPos ER (cell c 8) 0 ∅ 0 ∗ atPos ER (cell c 9) 0 ∅ 0)
    ∗ (cred (tallyAt (cell c 0) () 3) ∗ cred (tallyAt (cell c 7) () Nx) ∗ cred (tallyAt (cell c 8) () Nx) ∗ cred (tallyAt (cell c 9) () Nx))
    ∗ ((∃ f, x8Pts (F := F) c c f) ∗ (∃ f, x8Pts (F := F) c (sh 1 c) f) ∗ (∃ f, x8Pts (F := F) c (sh 2 c) f) ∗ (∃ f, x8Pts (F := F) c (sh 3 c) f))
    ∗ ((∃ f, rcPts (F := F) c (sh 1 c) f) ∗ (∃ f, rcPts (F := F) c (sh 2 c) f) ∗ (∃ f, rcPts (F := F) c (sh 3 c) f))
    ∗ ((∃ f, wsPts (F := F) c 0 f) ∗ (∃ f, wsPts (F := F) c 1 f))
    ∗ (waPts m c c ∗ waPts m c (sh 1 c) ∗ waPts m c (sh 2 c) ∗ waPts m c (sh 3 c))
    ∗ xPts m c
    ∗ sxPts m c
    ∗ swPts m c
    ∗ (∃ f, oPts (F := F) c f))
/-- and what it leaves. -/
def bodyLeaves : sProp 𝕄 :=
  iprop(ow c 0
    ∗ (atPos ER (cell c 0) 1 ∅ 0 ∗ atPos ER (cell c 1) 2 ∅ 0 ∗ atPos ER (cell c 2) 2 ∅ 0 ∗ atPos ER (cell c 3) 1 ∅ 0 ∗ atPos ER (cell c 4) 1 ∅ 0 ∗ atPos ER (cell c 5) 1 ∅ 0
        ∗ atPos ER (cell c 7) 1 ∅ 0 ∗ atPos ER (cell c 8) 1 ∅ 0 ∗ atPos ER (cell c 9) 1 ∅ 0)
    ∗ ((∃ f, x8Pts (F := F) c c f) ∗ (∃ f, x8Pts (F := F) c (sh 1 c) f) ∗ (∃ f, x8Pts (F := F) c (sh 2 c) f) ∗ (∃ f, x8Pts (F := F) c (sh 3 c) f))
    ∗ ((∃ f, rcPts (F := F) c (sh 1 c) f) ∗ (∃ f, rcPts (F := F) c (sh 2 c) f) ∗ (∃ f, rcPts (F := F) c (sh 3 c) f))
    ∗ ((∃ f, wsPts (F := F) c 0 f) ∗ (∃ f, wsPts (F := F) c 1 f))
    ∗ (waPts m c c ∗ waPts m c (sh 1 c) ∗ waPts m c (sh 2 c) ∗ waPts m c (sh 3 c))
    ∗ xPts m c
    ∗ sxPts m c
    ∗ swPts m c
    ∗ oPts c (outV m c))

/-- The whole body. -/
theorem sound_body (Qp : PUnit → sProp 𝕄) :
    iprop(records m K ∗ bodyNeeds m c)
      ⊢ iprop((bodyLeaves m c -∗ Qp ⟨⟩)
        -∗ wp frame (wpE (defs₀ (F := F)) 𝒱₀ (c : Thread nD τ) none) Set.univ
          (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5) Qp) := by
  simp only [cc0_body_eq_skeleton]; unfold cc0_body_skel
  rw [wp_bind]
  simp only [k0_part1_eq_skeleton]; unfold k0_part1_skel
  simp only [Prog.lift, Prog.bind_op, Prog.bind_ret, Prog.pure_eq_ret, wp_deviceId]
  rw [wp_ret]
  unfold bodyNeeds bodyLeaves O₀
  iintro ⟨#HR, #HL, HO, ⟨HtB1, HtB2, HtB3⟩, ⟨HtW0, HtW1, HtV0, HtV1⟩, ⟨HtS1, HtS2, HtS3⟩, ⟨HtR1, HtR2, HtR3⟩,
    ⟨HaB, HaW, HaV, HaS1, HaS2, HaS3, HaR1, HaR2, HaR3⟩, ⟨HcB, HcR1, HcR2, HcR3⟩, ⟨H80, H81, H82, H83⟩, ⟨Hr1, Hr2, Hr3⟩, ⟨Hs0, Hs1⟩,
    ⟨Hwa0, Hwa1, Hwa2, Hwa3⟩, Hx, Hsx, Hsw, Ho⟩ Hk
  imodintro
  dsimp only
  rw [wp_bind]
  iapply (part2 m K c _ (oR c + oB 3 c + oB 2 c) _) $$ [Hwa0 Hs0 HtW0 HO HtB1 Hr1]
  · isplitr; · iexact HR
    isplitl [Hwa0]; · iexact Hwa0
    isplitl [Hs0]; · iexact Hs0
    isplitl [HtW0]; · iexact HtW0
    isplitl [HO]; · iexact HO
    isplitl [HtB1]; · iexact HtB1
    iexact Hr1
  iintro %_ ⟨HcW0, HO⟩
  dsimp only
  rw [wp_bind]
  iapply (part3 m K c _ _ _ _) $$ [HO HtB2 Hr2 HtB3 Hr3 HcB HaB Hx H81]
  · isplitr; · iexact HR
    isplitr; · iexact HL
    isplitl [HO]; · iexact HO
    isplitl [HtB2]; · iexact HtB2
    isplitl [Hr2]; · iexact Hr2
    isplitl [HtB3]; · iexact HtB3
    isplitl [Hr3]; · iexact Hr3
    isplitl [HcB]; · iexact HcB
    isplitl [HaB]; · iexact HaB
    isplitl [Hx]; · iexact Hx
    iexact H81
  iintro %_ ⟨HO, HaB, Hr1, Hr2, Hr3, Hx, H81⟩
  dsimp only
  unfold oR
  rw [wp_bind]
  iapply (part4 m K c _ _ (0 + oV 2 c + oV 3 c) _) $$ [H81 Hr1 HO HtS1 HtR1 Hx H83]
  · isplitr; · iexact HR
    isplitl [H81]; · iexact H81
    isplitl [Hr1]; · iexact Hr1
    isplitl [HO]; · iexact HO
    isplitl [HtS1]; · iexact HtS1
    isplitl [HtR1]; · iexact HtR1
    isplitl [Hx]; · iexact Hx
    iexact H83
  iintro ⟨HcS1, HO, Hx, H83⟩
  rw [wp_bind]
  iapply (part5 m K c _ 0 _) $$ [H83 Hr3 HO HtS3 HtR3 Hx H82 Hr2 HtS2 HtR2]
  · isplitr; · iexact HR
    isplitl [H83]; · iexact H83
    isplitl [Hr3]; · iexact Hr3
    isplitl [HO]; · iexact HO
    isplitl [HtS3]; · iexact HtS3
    isplitl [HtR3]; · iexact HtR3
    isplitl [Hx]; · iexact Hx
    isplitl [H82]; · iexact H82
    isplitl [Hr2]; · iexact Hr2
    isplitl [HtS2]; · iexact HtS2
    iexact HtR2
  iintro ⟨HcS3, HcS2, HO, Hx⟩
  rw [wp_bind]
  iapply (part6 m K c _ _ _ _) $$ [Hwa1 Hs1 HtV0 Hx H80 HO HcW0 HaW Ho]
  · isplitr; · iexact HR
    isplitl [Hwa1]; · iexact Hwa1
    isplitl [Hs1]; · iexact Hs1
    isplitl [HtV0]; · iexact HtV0
    isplitl [Hx]; · iexact Hx
    isplitl [H80]; · iexact H80
    isplitl [HO]; · iexact HO
    isplitl [HcW0]; · iexact HcW0
    isplitl [HaW]; · iexact HaW
    iexact Ho
  iintro %_ ⟨HcV0, Hx, H80, HO, HaW, #HrW, Hs0, Hwa0, Ho⟩
  rw [wp_bind]
  iapply (part7 m K c _ _ _ _) $$ [HO HcR1 HaR1 HcV0 HaV Hwa3 Hs0 HtW1 Ho]
  · isplitr; · iexact HR
    isplitl [HO]; · iexact HO
    isplitl [HcR1]; · iexact HcR1
    isplitl [HaR1]; · iexact HaR1
    isplitl [HcV0]; · iexact HcV0
    isplitl [HaV]; · iexact HaV
    isplitr; · iexact HrW
    isplitl [Hwa3]; · iexact Hwa3
    isplitl [Hs0]; · iexact Hs0
    isplitl [HtW1]; · iexact HtW1
    iexact Ho
  iintro ⟨HO, HaR1, Hr1, HaV, #HrV, Hs1, Hwa1, HcW1, Ho⟩
  rw [wp_bind]
  iapply (part8 m K c _ _ _) $$ [Ho HO HcR3 HaR3 HcW1 HaW Hwa2 Hs1 HtV1]
  · isplitr; · iexact HR
    isplitl [Ho]; · iexact Ho
    isplitl [HO]; · iexact HO
    isplitl [HcR3]; · iexact HcR3
    isplitl [HaR3]; · iexact HaR3
    isplitl [HcW1]; · iexact HcW1
    isplitl [HaW]; · iexact HaW
    isplitr; · iexact HrV
    isplitl [Hwa2]; · iexact Hwa2
    isplitl [Hs1]; · iexact Hs1
    iexact HtV1
  iintro ⟨HO, HaR3, Hr3, HaW, Hs0, Hwa3, HcV1, Ho⟩
  dsimp only
  rw [wp_bind]
  iapply (part9 m K c _ _) $$ [Ho HO HcR2 HaR2 HcV1 HaV]
  · isplitr; · iexact HR
    isplitl [Ho]; · iexact Ho
    isplitl [HO]; · iexact HO
    isplitl [HcR2]; · iexact HcR2
    isplitl [HaR2]; · iexact HaR2
    isplitl [HcV1]; · iexact HcV1
    iexact HaV
  iintro ⟨HO, HaR2, Hr2, HaV, Hs1, Hwa2, Ho⟩
  rw [wp_bind]
  iapply (part10 m K c _) $$ [Ho Hsx Hsw HO HcS1 HaS1 HcS3 HaS3]
  · isplitr; · iexact HR
    isplitl [Ho]; · iexact Ho
    isplitl [Hsx]; · iexact Hsx
    isplitl [Hsw]; · iexact Hsw
    isplitl [HO]; · iexact HO
    isplitl [HcS1]; · iexact HcS1
    isplitl [HaS1]; · iexact HaS1
    isplitl [HcS3]; · iexact HcS3
    iexact HaS3
  iintro ⟨Ho, Hsx, Hsw, HO, HaS1, H81, HaS3, H83⟩
  iapply (step_wait m K c 4 0 (by decide) Nx rfl (iprop(∃ f, x8Pts (F := F) c (sh 2 c) f)) rfl (congrArg SemLoc.dma semS1.symm) cred_x8) $$ [HO HcS2 HaS2]
  · isplitr; · iexact HR
    isplitl [HO]; · iexact HO
    isplitl [HcS2]; · iexact HcS2
    iexact HaS2
  iintro ⟨HO, HaS2, -, H82⟩
  rw [wp_ret]
  imodintro
  iapply Hk
  isplitl [HO]
  · iexact HO
  isplitl [HaB HaW HaV HaS1 HaS2 HaS3 HaR1 HaR2 HaR3]
  · isplitl [HaB]; · iexact HaB
    isplitl [HaW]; · iexact HaW
    isplitl [HaV]; · iexact HaV
    isplitl [HaS1]; · iexact HaS1
    isplitl [HaS2]; · iexact HaS2
    isplitl [HaS3]; · iexact HaS3
    isplitl [HaR1]; · iexact HaR1
    isplitl [HaR2]; · iexact HaR2
    iexact HaR3
  isplitl [H80 H81 H82 H83]
  · isplitl [H80]; · iexact H80
    isplitl [H81]; · iexact H81
    isplitl [H82]; · iexact H82
    iexact H83
  isplitl [Hr1 Hr2 Hr3]
  · isplitl [Hr1]; · iexact Hr1
    isplitl [Hr2]; · iexact Hr2
    iexact Hr3
  isplitl [Hs0 Hs1]
  · isplitl [Hs0]; · iexact Hs0
    iexact Hs1
  isplitl [Hwa0 Hwa1 Hwa2 Hwa3]
  · isplitl [Hwa0]; · iexact Hwa0
    isplitl [Hwa1]; · iexact Hwa1
    isplitl [Hwa2]; · iexact Hwa2
    iexact Hwa3
  isplitl [Hx]
  · iexact Hx
  isplitl [Hsx]
  · iexact Hsx
  isplitl [Hsw]
  · iexact Hsw
  iexact Ho

end Parts

end Cert.KernelIdeal.Proto

end
-- ==== Proof.KernelIdealSetup.lean ====
/-
# Setting the protocol up on the four devices

What each device holds when its body starts: its buffers cut into the slots the protocol moves, the records of all
cells, its own positions and the rights to pay its duties; and the way back once the body is done.
-/
module

public import proofs.«01_k».proof.Proof.KernelIdealBody
public import Idealize.ShloMosaic.Lib.Pipeline.CollectiveSegs

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers cut into slots -/

/-- Slot numbers as places counted from a device. -/
def place (c : Dev nD) : Fin 4 ≃ Fin 4 :=
  Equiv.ofBijective (fun k => sh k c) (Finite.injective_iff_bijective.1 (sh_inj c))

theorem slot_sep (j j' : Fin 4) (h : j ≠ j') : Disjoint (slotR j).set (slotR j').set :=
  Rect.unit_disjoint 0 (by
    show j.val + 1 ≤ j'.val ∨ j'.val + 1 ≤ j.val
    have := Fin.val_ne_of_ne h
    omega)
theorem wslot_sep (j j' : Fin 2) (h : j ≠ j') : Disjoint (wslotR j).set (wslotR j').set :=
  Rect.unit_disjoint 0 (by
    show j.val + 1 ≤ j'.val ∨ j'.val + 1 ≤ j.val
    have := Fin.val_ne_of_ne h
    omega)
theorem wrow_sep (j j' : Fin 4) (h : j ≠ j') : Disjoint (wrowR j).set (wrowR j').set :=
  Rect.unit_disjoint 0 (by
    show 1024 * j.val + 1024 ≤ 1024 * j'.val ∨ 1024 * j'.val + 1024 ≤ 1024 * j.val
    have := Fin.val_ne_of_ne h
    omega)

theorem slot_cover : (Finset.univ : Finset (Fin 4)).biUnion (fun j => (slotR j).set) = Finset.univ := by
  refine Finset.eq_univ_of_forall fun i => Finset.mem_biUnion.mpr ⟨i 0, Finset.mem_univ _, ?_⟩
  rw [Rect.mem_set_unit]
  intro a
  fin_cases a
  · exact ⟨Nat.le_refl _, Nat.lt_succ_self _⟩
  · exact ⟨Nat.zero_le _, lt_of_lt_of_eq (i 1).isLt (Nat.zero_add _).symm⟩
  · exact ⟨Nat.zero_le _, lt_of_lt_of_eq (i 2).isLt (Nat.zero_add _).symm⟩
theorem wslot_cover : (Finset.univ : Finset (Fin 2)).biUnion (fun j => (wslotR j).set) = Finset.univ := by
  refine Finset.eq_univ_of_forall fun i => Finset.mem_biUnion.mpr ⟨i 0, Finset.mem_univ _, ?_⟩
  rw [Rect.mem_set_unit]
  intro a
  fin_cases a
  · exact ⟨Nat.le_refl _, Nat.lt_succ_self _⟩
  · exact ⟨Nat.zero_le _, lt_of_lt_of_eq (i 1).isLt (Nat.zero_add _).symm⟩
  · exact ⟨Nat.zero_le _, lt_of_lt_of_eq (i 2).isLt (Nat.zero_add _).symm⟩
theorem wrow_cover : (Finset.univ : Finset (Fin 4)).biUnion (fun j => (wrowR j).set) = Finset.univ := by
  refine Finset.eq_univ_of_forall fun i => ?_
  have hi : (i 0).val < 4096 := (i 0).isLt
  refine Finset.mem_biUnion.mpr ⟨⟨(i 0).val / 1024, by omega⟩, Finset.mem_univ _, ?_⟩
  rw [Rect.mem_set_unit]
  intro a
  fin_cases a
  · show 1024 * ((i 0).val / 1024) ≤ (i 0).val ∧ (i 0).val < 1024 * ((i 0).val / 1024) + 1024
    omega
  · exact ⟨Nat.zero_le _, lt_of_lt_of_eq (i 1).isLt (Nat.zero_add _).symm⟩

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem two (Φ : Fin 2 → sProp 𝕄) : bigSep Finset.univ Φ = iprop(Φ 0 ∗ Φ 1) :=
  bigSep_univ_eq_bigSepL [0, 1] (by decide) (by decide) Φ
omit [FloatOps F] in
theorem ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Anything held slot by slot is held place by place from a device. -/
theorem places (c : Dev nD) (Φ : Fin 4 → sProp 𝕄) :
    bigSep Finset.univ Φ = iprop(Φ c ∗ Φ (sh 1 c) ∗ Φ (sh 2 c) ∗ Φ (sh 3 c)) := by
  rw [bigSep_univ_equiv (place c) Φ, four]
  show iprop(Φ (sh 0 c) ∗ Φ (sh 1 c) ∗ Φ (sh 2 c) ∗ Φ (sh 3 c)) = _
  rw [sh_zero]

/-- Pieces of a buffer that cover it, each held at contents of its own, are the buffer at some contents. -/
theorem join_all {n : ℕ} {ℓ : Loc nD τ sig} (Kp : Fin n → Finset (Idx ℓ)) (f₀ : Buf (Elt F) ℓ)
    (sep : ∀ j j', j ≠ j' → Disjoint (Kp j) (Kp j')) (cover : Finset.univ.biUnion Kp = Finset.univ) :
    bigSep Finset.univ (fun j => iprop(∃ f : Buf (Elt F) ℓ, ℓ ↦[Kp j]{fullShare} f))
      ⊢ (∃ f : Buf (Elt F) ℓ, ℓ ↦{fullShare} f : sProp 𝕄) := by
  haveI : Nonempty (Buf (Elt F) ℓ) := ⟨f₀⟩
  refine (BI.bigSep_exists_pi Finset.univ (fun (j : Fin n) (f : Buf (Elt F) ℓ) => (ℓ ↦[Kp j]{fullShare} f : sProp 𝕄))).trans ?_
  iintro ⟨%fs, H⟩
  ihave H' := (pointsTo_biUnion_join Finset.univ Kp fs f₀ fun j _ j' _ h => sep j j' h) $$ H
  icases H' with ⟨%g, -, H⟩
  iexists g
  rw [cover]
  iexact H

section Cut
variable (c : Dev nD)

theorem x8_cut (f : S4x1024x1024.Idx → Elt F .fp8e4m3) :
    (((c : Thread nD τ).loc cc0_scratch0) ↦{fullShare} f : sProp 𝕄) = bigSep Finset.univ fun j : Fin 4 => x8Pts c j f := by
  rw [show (((c : Thread nD τ).loc cc0_scratch0) ↦{fullShare} f : sProp 𝕄)
    = (((c : Thread nD τ).loc cc0_scratch0) ↦[(Finset.univ : Finset (Fin 4)).biUnion (fun j => (slotR j).set)]{fullShare} f) by rw [slot_cover]]
  exact pointsTo_biUnion _ _ fun j _ j' _ h => slot_sep j j' h
theorem rc_cut (f : S4x1024x1024.Idx → Elt F .fp8e4m3) :
    (((c : Thread nD τ).loc cc0_scratch1) ↦{fullShare} f : sProp 𝕄) = bigSep Finset.univ fun j : Fin 4 => rcPts c j f := by
  rw [show (((c : Thread nD τ).loc cc0_scratch1) ↦{fullShare} f : sProp 𝕄)
    = (((c : Thread nD τ).loc cc0_scratch1) ↦[(Finset.univ : Finset (Fin 4)).biUnion (fun j => (slotR j).set)]{fullShare} f) by rw [slot_cover]]
  exact pointsTo_biUnion _ _ fun j _ j' _ h => slot_sep j j' h
theorem ws_cut (f : S2x1024x2048.Idx → Elt F .f32) :
    (((c : Thread nD τ).loc cc0_scratch2) ↦{fullShare} f : sProp 𝕄) = bigSep Finset.univ fun j : Fin 2 => wsPts c j f := by
  rw [show (((c : Thread nD τ).loc cc0_scratch2) ↦{fullShare} f : sProp 𝕄)
    = (((c : Thread nD τ).loc cc0_scratch2) ↦[(Finset.univ : Finset (Fin 2)).biUnion (fun j => (wslotR j).set)]{fullShare} f) by rw [wslot_cover]]
  exact pointsTo_biUnion _ _ fun j _ j' _ h => wslot_sep j j' h
theorem wa_cut :
    (((c : Thread nD τ).loc main_arg1) ↦{fullShare} wAt m c : sProp 𝕄) = bigSep Finset.univ fun j : Fin 4 => waPts m c j := by
  rw [show (((c : Thread nD τ).loc main_arg1) ↦{fullShare} wAt m c : sProp 𝕄)
    = (((c : Thread nD τ).loc main_arg1) ↦[(Finset.univ : Finset (Fin 4)).biUnion (fun j => (wrowR j).set)]{fullShare} wAt m c) by rw [wrow_cover]]
  exact pointsTo_biUnion _ _ fun j _ j' _ h => wrow_sep j j' h

/-- Slots held at contents of their own are the whole buffer at some contents. -/
theorem x8_join : iprop((∃ f, x8Pts (F := F) c c f) ∗ (∃ f, x8Pts (F := F) c (sh 1 c) f) ∗ (∃ f, x8Pts (F := F) c (sh 2 c) f) ∗ (∃ f, x8Pts (F := F) c (sh 3 c) f))
    ⊢ (∃ f : Buf (Elt F) ((c : Thread nD τ).loc cc0_scratch0), ((c : Thread nD τ).loc cc0_scratch0) ↦{fullShare} f : sProp 𝕄) := by
  rw [← places c fun j => iprop(∃ f, x8Pts (F := F) c j f)]
  exact join_all (ℓ := (c : Thread nD τ).loc cc0_scratch0) (fun j => (slotR j).set) (fun _ => Classical.choice (Elt.nonempty F _)) slot_sep slot_cover
theorem rc_join : iprop((∃ f, rcPts (F := F) c c f) ∗ (∃ f, rcPts (F := F) c (sh 1 c) f) ∗ (∃ f, rcPts (F := F) c (sh 2 c) f) ∗ (∃ f, rcPts (F := F) c (sh 3 c) f))
    ⊢ (∃ f : Buf (Elt F) ((c : Thread nD τ).loc cc0_scratch1), ((c : Thread nD τ).loc cc0_scratch1) ↦{fullShare} f : sProp 𝕄) := by
  rw [← places c fun j => iprop(∃ f, rcPts (F := F) c j f)]
  exact join_all (ℓ := (c : Thread nD τ).loc cc0_scratch1) (fun j => (slotR j).set) (fun _ => Classical.choice (Elt.nonempty F _)) slot_sep slot_cover
theorem ws_join : iprop((∃ f, wsPts (F := F) c 0 f) ∗ (∃ f, wsPts (F := F) c 1 f))
    ⊢ (∃ f : Buf (Elt F) ((c : Thread nD τ).loc cc0_scratch2), ((c : Thread nD τ).loc cc0_scratch2) ↦{fullShare} f : sProp 𝕄) := by
  rw [← two fun j => iprop(∃ f, wsPts (F := F) c j f)]
  exact join_all (ℓ := (c : Thread nD τ).loc cc0_scratch2) (fun j => (wslotR j).set) (fun _ => Classical.choice (Elt.nonempty F _)) wslot_sep wslot_cover

end Cut

/-! ## The cells and their duties' tokens -/

theorem cell_inj : Function.Injective (fun ci : Dev nD × Fin 10 => cell ci.1 ci.2) := by
  rintro ⟨c, i⟩ ⟨c', i'⟩ h
  have h1 : c = c' := congrArg (fun g : GSem nD τ sig => g.1.1) h
  subst h1
  have h2 : i = i' := csem_inj c (congrArg Prod.snd h)
  subst h2
  rfl
/-- All cells of the protocol. -/
def cells : Finset (GSem nD τ sig) := Finset.univ.map ⟨_, cell_inj⟩

/-- The duties of a device's own cells, listed: cell, round, duty. -/
def duty : Fin 13 → Fin 10 × ℕ × Fin 4
  | 0 => (0, 0, 1) | 1 => (0, 0, 2) | 2 => (0, 0, 3)
  | 3 => (1, 0, 0) | 4 => (1, 1, 0) | 5 => (2, 0, 0) | 6 => (2, 1, 0)
  | 7 => (3, 0, 0) | 8 => (4, 0, 0) | 9 => (5, 0, 0)
  | 10 => (7, 0, 0) | 11 => (8, 0, 0) | 12 => (9, 0, 0)
theorem duty_inj : Function.Injective duty := by decide
/-- The same as a token of device `c`. -/
abbrev tok (cj : Dev nD × Fin 13) : GSem nD τ sig × ℕ × Fin 4 := (cell cj.1 (duty cj.2).1, (duty cj.2).2)
theorem tok_inj : Function.Injective tok := by
  rintro ⟨c, j⟩ ⟨c', j'⟩ h
  have h1 : c = c' := congrArg (fun x : GSem nD τ sig × ℕ × Fin 4 => x.1.1.1) h
  subst h1
  have h2 : (duty j).1 = (duty j').1 := csem_inj c (congrArg (fun x : GSem nD τ sig × ℕ × Fin 4 => x.1.2) h)
  have h3 : (duty j).2 = (duty j').2 := congrArg (fun x : GSem nD τ sig × ℕ × Fin 4 => x.2) h
  have h4 : j = j' := duty_inj (Prod.ext h2 h3)
  subst h4
  rfl
/-- All duties' tokens. -/
def allToks : Finset (GSem nD τ sig × ℕ × Fin 4) := Finset.univ.map ⟨tok, tok_inj⟩

/-- The element the launch starts from: the staging's and the protocol's. -/
def u₀ : UU := (initOf (Pipeline.cells cfgs cellOf_inj) (Pipeline.launchToks cfgs cellOf_inj), initOf cells allToks)

/-- The tokens of the duties of device `c`'s own cells; -/
def ownToks (c : Dev nD) : sProp 𝕄 :=
  iprop(dutyTok ER (cell c 0) 0 1 ∗ dutyTok ER (cell c 0) 0 2 ∗ dutyTok ER (cell c 0) 0 3
    ∗ dutyTok ER (cell c 1) 0 0 ∗ dutyTok ER (cell c 1) 1 0 ∗ dutyTok ER (cell c 2) 0 0 ∗ dutyTok ER (cell c 2) 1 0
    ∗ dutyTok ER (cell c 3) 0 0 ∗ dutyTok ER (cell c 4) 0 0 ∗ dutyTok ER (cell c 5) 0 0
    ∗ dutyTok ER (cell c 7) 0 0 ∗ dutyTok ER (cell c 8) 0 0 ∗ dutyTok ER (cell c 9) 0 0)
/-- and of the duties it pays. -/
def payToks (c : Dev nD) : sProp 𝕄 :=
  iprop((dutyTok ER (cell (sh 1 c) 0) 0 (-1) ∗ dutyTok ER (cell (sh 2 c) 0) 0 (-2) ∗ dutyTok ER (cell (sh 3 c) 0) 0 (-3))
    ∗ (dutyTok ER (cell c 1) 0 0 ∗ dutyTok ER (cell c 1) 1 0 ∗ dutyTok ER (cell c 2) 0 0 ∗ dutyTok ER (cell c 2) 1 0)
    ∗ (dutyTok ER (cell c 3) 0 0 ∗ dutyTok ER (cell c 4) 0 0 ∗ dutyTok ER (cell c 5) 0 0)
    ∗ (dutyTok ER (cell (sh 1 c) 9) 0 0 ∗ dutyTok ER (cell (sh 2 c) 8) 0 0 ∗ dutyTok ER (cell (sh 3 c) 7) 0 0))

omit [FloatOps F] in
/-- Every duty is paid by exactly one device. -/
theorem toks_dealt : (bigSep Finset.univ fun c : Dev nD => (ownToks c : sProp 𝕄)) ⊢ bigSep Finset.univ fun c : Dev nD => payToks c := by
  unfold ownToks payToks
  simp only [bigSep_sep']
  rw [bigSep_univ_equiv (shEquiv 3) (fun c : Dev nD => (dutyTok ER (cell c 0) 0 1 : sProp 𝕄)),
    bigSep_univ_equiv (shEquiv 2) (fun c : Dev nD => (dutyTok ER (cell c 0) 0 2 : sProp 𝕄)),
    bigSep_univ_equiv (shEquiv 1) (fun c : Dev nD => (dutyTok ER (cell c 0) 0 3 : sProp 𝕄)),
    bigSep_univ_equiv (shEquiv 3) (fun c : Dev nD => (dutyTok ER (cell c 7) 0 0 : sProp 𝕄)),
    bigSep_univ_equiv (shEquiv 2) (fun c : Dev nD => (dutyTok ER (cell c 8) 0 0 : sProp 𝕄)),
    bigSep_univ_equiv (shEquiv 1) (fun c : Dev nD => (dutyTok ER (cell c 9) 0 0 : sProp 𝕄))]
  iintro ⟨B1, B2, B3, W1, W2, W3, W4, S1, S2, S3, R7, R8, R9⟩
  isplitl [B1 B2 B3]
  · isplitl [B3]; · iexact B3
    isplitl [B2]; · iexact B2
    iexact B1
  isplitl [W1 W2 W3 W4]
  · isplitl [W1]; · iexact W1
    isplitl [W2]; · iexact W2
    isplitl [W3]; · iexact W3
    iexact W4
  isplitl [S1 S2 S3]
  · isplitl [S1]; · iexact S1
    isplitl [S2]; · iexact S2
    iexact S3
  isplitl [R9]; · iexact R9
  isplitl [R8]; · iexact R8
  iexact R7

/-- What the launch deals device `c`: its cells' states, its positions and that round 0 is reached, its own cells' tokens; -/
def G (c : Dev nD) : sProp 𝕄 :=
  iprop((bigSep Finset.univ fun i : Fin 10 => roundState ER (rd m) (cell c i) 0)
    ∗ (bigSep Finset.univ fun i : Fin 10 => atPos ER (cell c i) 0 ∅ 0)
    ∗ (bigSep Finset.univ fun i : Fin 10 => reached ER (cell c i) 0) ∗ ownToks c)
/-- and what it holds once the cells' invariants are shared. -/
def G' (c : Dev nD) : sProp 𝕄 :=
  iprop(∃ K, records m K ∗ (bigSep Finset.univ fun i : Fin 10 => atPos ER (cell c i) 0 ∅ 0) ∗ payToks c)

/-- The protocol's launch element, dealt. -/
theorem fund_all : BI.own (ER (initOf cells allToks)) ⊢ (|==> bigSep Finset.univ (G m) : sProp 𝕄) := by
  have hC (Φ : GSem nD τ sig → sProp 𝕄) : bigSep cells Φ = bigSep Finset.univ fun c : Dev nD => bigSep Finset.univ fun i : Fin 10 => Φ (cell c i) := by
    unfold cells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    unfold ownToks
    rw [bigSep_univ_eq_bigSepL [0, 1, 2, 3, 4, 5, 6, 7, 8, 9, 10, 11, 12] (by decide) (by decide)]
    rfl
  unfold G
  simp only [bigSep_sep']
  iintro H
  imod (Rounds.fund ER (rd m) cells allToks) $$ H with ⟨Hst, Hr, Hat, Htok⟩
  imodintro
  ihave Hst' := (Entails.of_eq (hC fun g => roundState ER (rd m) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  isplitl [Hst']; · iexact Hst'
  isplitl [Hat']; · iexact Hat'
  isplitl [Hr']; · iexact Hr'
  iexact Htok'

/-! ## The semaphores -/

/-- The kernel's own semaphores in the order they are declared: two of `w`, three send, four receive. -/
def osem : Fin 9 → SemLoc sig
  | 0 => .dma (wS 0) | 1 => .dma (wS 1) | 2 => .dma (sS 0) | 3 => .dma (sS 1) | 4 => .dma (sS 2)
  | 5 => .dma (rS 0) | 6 => .dma (rS 1) | 7 => .dma (rS 2) | 8 => .dma (rS 3)
theorem ownSemFacts : Pipeline.OwnSemFacts cfg0.spec osem := by decide

section Sems
variable (c : Dev nD)

/-- The semaphores at zero, own and barrier, are the ten cells at zero. -/
theorem sems_eq :
    iprop(Pipeline.ownSems0 (Ix := Unit) (Name := ℕ) (U := UU) (Lvl := ℕ) (Val := Elt F) (τ := τ) osem c ∗ unscopedSems0 c)
      ⊣⊢ (bigSep Finset.univ fun i : Fin 10 => semVal (cell c i) 0 : sProp 𝕄) := by
  have hr : (bigSep Finset.univ fun j : Fin 4 => (semVal ((c : Thread nD τ), SemLoc.dma (rS j)) 0 : sProp 𝕄))
      = iprop(semVal (cell c 6) 0 ∗ semVal (cell c 7) 0 ∗ semVal (cell c 8) 0 ∗ semVal (cell c 9) 0) := by
    rw [bigSep_univ_equiv (place c), four]; rfl
  rw [four] at hr
  have hu : (unscopedSems0 c : sProp 𝕄) = semVal (cell c 0) 0 := by
    unfold unscopedSems0
    rw [bigSep_eq_bigSepL_of_eq [SemLoc.reg barS] (by decide) (by decide)]
    rfl
  have ho : (Pipeline.ownSems0 (Ix := Unit) (Name := ℕ) (U := UU) (Lvl := ℕ) (Val := Elt F) (τ := τ) osem c : sProp 𝕄)
      = iprop(semVal (cell c 1) 0 ∗ semVal (cell c 2) 0 ∗ semVal (cell c 3) 0 ∗ semVal (cell c 4) 0 ∗ semVal (cell c 5) 0
        ∗ semVal ((c : Thread nD τ), SemLoc.dma (rS 0)) 0 ∗ semVal ((c : Thread nD τ), SemLoc.dma (rS 1)) 0
        ∗ semVal ((c : Thread nD τ), SemLoc.dma (rS 2)) 0 ∗ semVal ((c : Thread nD τ), SemLoc.dma (rS 3)) 0) := by
    rw [Pipeline.ownSems0_eq_of_list c osem [0, 1, 2, 3, 4, 5, 6, 7, 8] (by decide) (by decide)]; rfl
  rw [ho, hu, hr, ten]
  constructor
  · iintro ⟨⟨H1, H2, H3, H4, H5, H6⟩, H0⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    isplitr [H0]
    · isplitl [H1]; · iexact H1
      isplitl [H2]; · iexact H2
      isplitl [H3]; · iexact H3
      isplitl [H4]; · iexact H4
      isplitl [H5]; · iexact H5
      iexact H6
    iexact H0

/-- The round each cell is left at. -/
def last (i : Fin 10) : ℕ := if i = 1 ∨ i = 2 then 2 else if i = 6 then 0 else 1
theorem dut_last (i : Fin 10) (r : ℕ) (h : last i ≤ r) : dut i r = ∅ := by
  unfold last at h
  unfold dut
  (repeat' split) <;> first | rfl | (exfalso; split at h <;> omega) | (exfalso; simp_all <;> omega)

/-- Cells at their last round close: their semaphores are at zero. -/
theorem close_all (K : Dev nD × Fin 10 → ℕ) :
    iprop(records m K ∗ bigSep Finset.univ fun i : Fin 10 => atPos ER (cell c i) (last i) ∅ 0)
      ⊢ (|={Set.univ}=> bigSep Finset.univ fun i : Fin 10 => semVal (cell c i) 0 : sProp 𝕄) := by
  have h (i : Fin 10) : iprop(records m K ∗ atPos ER (cell c i) (last i) ∅ 0) ⊢ (|={Set.univ}=> semVal (cell c i) 0 : sProp 𝕄) := by
    iintro ⟨#HR, Hat⟩
    iapply (Rounds.cell_close ER (rd m) (κ := K (c, i)) (Set.mem_univ _) (fun h => h) (R := last i)
      fun r hr => (rd_duties m c i r).trans (dut_last i r hr))
    isplitr
    · iapply (records_inv m K c i); iexact HR
    iexact Hat
  refine (sep_mono_left (BI.bigSep_of_persistent (Finset.univ : Finset (Fin 10)) (records m K))).trans ?_
  rw [← bigSep_sep']
  exact (bigSep_mono fun i _ => h i).trans (bigSep_fupd _ _)

end Sems

/-! ## Sharing the invariants -/

/-- Device `c`'s cells' invariants, allocated. -/
theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 10 => iprop(∃ κ : ℕ, cellInv ER (rd m) κ (cell c i)))
          ∗ (bigSep Finset.univ fun i : Fin 10 => reached ER (cell c i) 0)
          ∗ (bigSep Finset.univ fun i : Fin 10 => atPos ER (cell c i) 0 ∅ 0) ∗ ownToks c) := by
  have h : iprop((bigSep Finset.univ fun i : Fin 10 => semVal (cell c i) 0) ∗ bigSep Finset.univ fun i : Fin 10 => roundState ER (rd m) (cell c i) 0)
      ⊢ (|={Set.univ}=> bigSep Finset.univ fun i : Fin 10 => iprop(∃ κ : ℕ, cellInv ER (rd m) κ (cell c i)) : sProp 𝕄) := by
    rw [← bigSep_sep']
    exact (bigSep_mono fun i _ => (Rounds.body_intro ER (rd m) (cell c i)).trans inv_alloc).trans (bigSep_fupd _ _)
  unfold G
  iintro ⟨Ho, Hu, Hst, Hat, Hr, Htok⟩
  ihave Hv := (sems_eq (F := F) c).1 $$ [Ho Hu]
  · isplitl [Ho] <;> iassumption
  imod h $$ [Hv Hst] with Hi
  · isplitl [Hv] <;> iassumption
  imodintro
  isplitl [Hi]; · iexact Hi
  isplitl [Hr]; · iexact Hr
  isplitl [Hat]; · iexact Hat
  iexact Htok

/-- The devices' invariants under one choice of names become known to every device, and each duty's token goes to the
    device that pays it. -/
theorem deal_all :
    (bigSep Finset.univ fun c => iprop((bigSep Finset.univ fun i : Fin 10 => iprop(∃ κ : ℕ, cellInv ER (rd m) κ (cell c i)))
          ∗ (bigSep Finset.univ fun i : Fin 10 => reached ER (cell c i) 0)
          ∗ (bigSep Finset.univ fun i : Fin 10 => atPos ER (cell c i) 0 ∅ 0) ∗ ownToks c) : sProp 𝕄)
      ⊢ bigSep Finset.univ (G' m) := by
  simp only [bigSep_sep' (s := (Finset.univ : Finset (Dev nD)))]
  rw [← bigSep_univ_prod (fun ci : Dev nD × Fin 10 => iprop(∃ κ : ℕ, cellInv ER (rd m) κ (cell ci.1 ci.2))),
    ← bigSep_univ_prod (fun ci : Dev nD × Fin 10 => (reached ER (cell ci.1 ci.2) 0 : sProp 𝕄))]
  iintro ⟨HI, #HR, Hat, Htok⟩
  ihave HK := (BI.bigSep_exists_pi Finset.univ (fun (ci : Dev nD × Fin 10) (κ : ℕ) => (cellInv ER (rd m) κ (cell ci.1 ci.2) : sProp 𝕄))) $$ HI
  icases HK with ⟨%K, #HI⟩
  ihave Htk := (toks_dealt (F := F)) $$ Htok
  have hg (c : Dev nD) : iprop(records m K ∗ (bigSep Finset.univ fun i : Fin 10 => atPos ER (cell c i) 0 ∅ 0) ∗ payToks c) ⊢ G' m c := by
    unfold G'
    iintro H
    iexists K
    iexact H
  iapply (show iprop(records m K ∗ (bigSep Finset.univ fun c : Dev nD => bigSep Finset.univ fun i : Fin 10 => atPos ER (cell c i) 0 ∅ 0) ∗ bigSep Finset.univ fun c : Dev nD => payToks c)
      ⊢ bigSep Finset.univ (G' m) from by
        refine (sep_mono_left (BI.bigSep_of_persistent (Finset.univ : Finset (Dev nD)) (records m K))).trans ?_
        rw [← bigSep_sep', ← bigSep_sep']
        exact bigSep_mono fun c _ => hg c)
  isplitr
  · unfold records
    isplitr; · iexact HI
    iexact HR
  isplitl [Hat]; · iexact Hat
  iexact Htk

/-- From the semaphores at zero and what the launch deals, on all devices at once, to what each device starts with. -/
theorem share_all :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => alloc_one m c).trans (bigSep_fupd _ _)).trans (BI.fupd_mono (deal_all m))

end Cert.KernelIdeal.Proto

end
-- ==== Proof.KernelIdealRun.lean ====
/-
# The run: the kernel on the four devices, from its launch to its final states

From any memory with every semaphore at zero, under any interleaving, the program ends; each device's result is
`outV` of the launch's memory, its arguments are as they were and every semaphore is at zero.
-/
module

public import proofs.«01_k».proof.Proof.KernelIdealSetup
public import proofs.«01_k».proof.Proof.Gen.KernelIdeal.Points
public import Idealize.ShloMosaic.Lib.Pipeline.Value

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after the body -/

/-- The right factor in memory, whole. -/
def waWhole (c : Dev nD) : sProp 𝕄 := ((c : Thread nD τ).loc main_arg1) ↦{fullShare} wAt m c
/-- The three buffers of the kernel, at any contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The credit of what the other devices owe it. -/
def dues (c : Dev nD) : sProp 𝕄 :=
  iprop(cred (tallyAt (cell c 0) () 3) ∗ cred (tallyAt (cell c 7) () Nx) ∗ cred (tallyAt (cell c 8) () Nx) ∗ cred (tallyAt (cell c 9) () Nx))

def start (c : Dev nD) : sProp 𝕄 := iprop(G' m c ∗ levAts L lv ∗ dues c ∗ waWhole m c)
def Φ₀ (c : Dev nD) : sProp 𝕄 := iprop(start m c ∗ bufs c)
def Φ₁ (c : Dev nD) : sProp 𝕄 := iprop((bigSep Finset.univ fun i : Fin 10 => semVal (cell c i) 0) ∗ waWhole m c ∗ bufs c)

/-- The staging's data: the arrays as launched, the result as `outV`. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => sxAt m c
    | ⟨2, _⟩ => swAt m c
    | ⟨3, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole staging buffer held, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The atoms of the body, from what a device holds at the start; -/
theorem needs_of (K : Dev nD × Fin 10 → ℕ) (c : Dev nD) :
    iprop((bigSep Finset.univ fun i : Fin 10 => atPos ER (cell c i) 0 ∅ 0) ∗ payToks c ∗ levAts L lv ∗ dues c ∗ waWhole m c ∗ bufs c
        ∗ ow c (O₀ c) ∗ xPts m c ∗ sxPts m c ∗ swPts m c ∗ (∃ f, oPts (F := F) c f))
      ⊢ iprop(bodyNeeds m c ∗ atPos ER (cell c 6) 0 ∅ 0 ∗ ∃ f, rcPts (F := F) c c f) := by
  unfold bodyNeeds payToks dues bufs waWhole
  rw [ten, wa_cut, places c fun j => waPts m c j]
  iintro ⟨⟨A0, A1, A2, A3, A4, A5, A6, A7, A8, A9⟩, ⟨TB, TW, TS, TR⟩, HL, HD, HW, ⟨⟨%f0, H0⟩, ⟨%f1, H1⟩, ⟨%f2, H2⟩⟩, HO, Hx, Hsx, Hsw, Ho⟩
  ihave H0' := (Entails.of_eq ((x8_cut c f0).trans (places c fun j => x8Pts c j f0))) $$ H0
  ihave H1' := (Entails.of_eq ((rc_cut c f1).trans (places c fun j => rcPts c j f1))) $$ H1
  ihave H2' := (Entails.of_eq ((ws_cut c f2).trans (two fun j => wsPts c j f2))) $$ H2
  icases H0' with ⟨X0, X1, X2, X3⟩
  icases H1' with ⟨R0, R1, R2, R3⟩
  icases H2' with ⟨S0, S1⟩
  isplitr [A6 R0]
  · isplitl [HL]; · iexact HL
    isplitl [HO]; · iexact HO
    isplitl [TB]; · iexact TB
    isplitl [TW]; · iexact TW
    isplitl [TS]; · iexact TS
    isplitl [TR]; · iexact TR
    isplitl [A0 A1 A2 A3 A4 A5 A7 A8 A9]
    · isplitl [A0]; · iexact A0
      isplitl [A1]; · iexact A1
      isplitl [A2]; · iexact A2
      isplitl [A3]; · iexact A3
      isplitl [A4]; · iexact A4
      isplitl [A5]; · iexact A5
      isplitl [A7]; · iexact A7
      isplitl [A8]; · iexact A8
      iexact A9
    isplitl [HD]; · iexact HD
    isplitl [X0 X1 X2 X3]
    · isplitl [X0]; · iexists f0; iexact X0
      isplitl [X1]; · iexists f0; iexact X1
      isplitl [X2]; · iexists f0; iexact X2
      iexists f0; iexact X3
    isplitl [R1 R2 R3]
    · isplitl [R1]; · iexists f1; iexact R1
      isplitl [R2]; · iexists f1; iexact R2
      iexists f1; iexact R3
    isplitl [S0 S1]
    · isplitl [S0]; · iexists f2; iexact S0
      iexists f2; iexact S1
    isplitl [HW]; · iexact HW
    isplitl [Hx]; · iexact Hx
    isplitl [Hsx]; · iexact Hsx
    isplitl [Hsw]; · iexact Hsw
    iexact Ho
  isplitl [A6]; · iexact A6
  iexists f1; iexact R0

/-- and back, from what the body leaves. -/
theorem leaves_to (K : Dev nD × Fin 10 → ℕ) (c : Dev nD) :
    iprop(records m K ∗ bodyLeaves m c ∗ atPos ER (cell c 6) 0 ∅ 0 ∗ ∃ f, rcPts (F := F) c c f)
      ⊢ |={Set.univ}=> iprop(Φ₁ m c ∗ ow c 0 ∗ xPts m c ∗ sxPts m c ∗ swPts m c ∗ oPts c (outV m c)) := by
  unfold bodyLeaves Φ₁ bufs waWhole
  rw [wa_cut, places c fun j => waPts m c j]
  iintro ⟨#HR, ⟨HO, ⟨A0, A1, A2, A3, A4, A5, A7, A8, A9⟩, HX, ⟨R1, R2, R3⟩, HS, HW, Hx, Hsx, Hsw, Ho⟩, A6, R0⟩
  ihave HX' := (x8_join (F := F) c) $$ HX
  ihave HS' := (ws_join (F := F) c) $$ HS
  ihave HR' := (rc_join (F := F) c) $$ [R0 R1 R2 R3]
  · isplitl [R0]; · iexact R0
    isplitl [R1]; · iexact R1
    isplitl [R2]; · iexact R2
    iexact R3
  imod (close_all m c K) $$ [A0 A1 A2 A3 A4 A5 A6 A7 A8 A9] with Hz
  · isplitr; · iexact HR
    rw [ten]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  imodintro
  isplitr [HO Hx Hsx Hsw Ho]
  · isplitl [Hz]; · iexact Hz
    isplitl [HW]; · iexact HW
    isplitl [HX']; · iexact HX'
    isplitl [HR']; · iexact HR'
    iexact HS'
  isplitl [HO]; · iexact HO
  isplitl [Hx]; · iexact Hx
  isplitl [Hsx]; · iexact Hsx
  isplitl [Hsw]; · iexact Hsw
  iexact Ho

/-! ## The body as the launch calls it -/

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xAt m c) ∗ stg c cc0_stg1_0 (sxAt m c) ∗ stg c cc0_stg2_0 (swAt m c) ∗ stg c cc0_stg3_0 (outV m c))

theorem before_0 (c : Dev nD) (d) : (dats m 0 c).before (0 : Fin 4) t0_0 d = xAt m c := by
  unfold Dat.before; rw [if_pos (fetch0_0 t0_0)]; rfl
theorem before_1 (c : Dev nD) (d) : (dats m 0 c).before (1 : Fin 4) t0_0 d = sxAt m c := by
  unfold Dat.before; rw [if_pos (fetch0_1 t0_0)]; rfl
theorem before_2 (c : Dev nD) (d) : (dats m 0 c).before (2 : Fin 4) t0_0 d = swAt m c := by
  unfold Dat.before; rw [if_pos (fetch0_2 t0_0)]; rfl

/-- The body from what the launch gives to what it takes back. -/
theorem body_run (c : Dev nD) :
    bodyPre m c ⊢ wp frame (wpE (defs₀ (F := F)) 𝒱₀ (c : Thread nD τ) none) Set.univ
      (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5) (fun _ => bodyPost m c) := by
  unfold bodyPre Φ₀ start G'
  iintro ⟨⟨⟨⟨%K, #HR, Hat, Htok⟩, HL, HD, HW⟩, HB⟩, Ho, ⟨%d0, %g0, %h0, Hx⟩, ⟨%d1, %g1, %h1, Hsx⟩, ⟨%d2, %g2, %h2, Hsw⟩, ⟨%d3, %g3, -, Hout⟩⟩
  have e0 : g0 = xAt m c := h0.trans (before_0 m c d0)
  have e1 : g1 = sxAt m c := h1.trans (before_1 m c d1)
  have e2 : g2 = swAt m c := h2.trans (before_2 m c d2)
  subst e0 e1 e2
  unfold Dat.owesAt Pipeline.owesWithin
  icases Ho with ⟨%W, %hW, HO⟩
  rw [show (dats m 0 c).owed t0_0.castSucc = O₀ c from rfl]
  ihave HN := (needs_of m K c) $$ [Hat Htok HL HD HW HB HO Hx Hsx Hsw Hout]
  · isplitl [Hat]; · iexact Hat
    isplitl [Htok]; · iexact Htok
    isplitl [HL]; · iexact HL
    isplitl [HD]; · iexact HD
    isplitl [HW]; · iexact HW
    isplitl [HB]; · iexact HB
    isplitl [HO]; · unfold ow; iexists W; iexact HO
    isplitl [Hx]; · unfold xPts; iexact Hx
    isplitl [Hsx]; · unfold sxPts; iexact Hsx
    isplitl [Hsw]; · unfold swPts; iexact Hsw
    iexists g3; unfold oPts; iexact Hout
  icases HN with ⟨HN, H6⟩
  iapply wp_fupd
  iapply (sound_body m K c _) $$ [HN]
  · isplitr; · iexact HR
    iexact HN
  iintro HLv
  imod (leaves_to m K c) $$ [HLv H6] with ⟨HΦ, HO, Hx, Hsx, Hsw, Hout⟩
  · isplitr; · iexact HR
    isplitl [HLv]; · iexact HLv
    iexact H6
  imodintro
  unfold bodyPost Dat.owesAt Pipeline.owesWithin ow xPts sxPts swPts oPts
  rw [show (dats m 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 4000 in
/-- The launch's obligation on device `c`. -/
theorem body_obligation (c : Dev nD) : BodyObligation (dats (F := F) m 0 c) (defs₀ (F := F)) 𝒱₀ () Set.univ := fun t => by
  rw [fin_N0 t]
  rw [show (bigSep (Finset.univ : Finset (Fin cfg0.W)) : (Fin cfg0.W → sProp 𝕄) → sProp 𝕄) = bigSep (Finset.univ : Finset (Fin 4)) from rfl]
  rw [bigSep_W0, bigSep_W0]
  simp only [owns_stg]
  exact body_run m c

/-! ## What the launch gives -/

theorem bar_dues (k : Fin 4) : (∑ d : Dev nD, oB k d) = ∑ d : Dev nD, tallyAt (cell d 0) () 1 :=
  (shEquiv k).sum_comp fun d => (tallyAt (cell d 0) () 1 : CellTallies nD τ sig Unit)
theorem recv_dues (k : Fin 4) : (∑ d : Dev nD, oV k d) = ∑ d : Dev nD, tallyAt (cell d (ri (-k))) () Nx :=
  (shEquiv k).sum_comp fun d => (tallyAt (cell d (ri (-k))) () Nx : CellTallies nD τ sig Unit)

/-- What all devices owe device `c`. -/
def owedTo (c : Dev nD) : CellTallies nD τ sig Unit :=
  tallyAt (cell c 0) () 3 + (tallyAt (cell c 7) () Nx + (tallyAt (cell c 8) () Nx + tallyAt (cell c 9) () Nx))

theorem regroup {M : Type} [AddCommMonoid M] (a p q r : M) : a + a + a + (p + (q + r)) = 0 + q + p + r + a + a + a := by
  rw [zero_add, ← add_assoc p q r, add_comm p q, add_comm (a + a + a)]
  simp only [add_assoc]

theorem owed_sum : (∑ d, O₀ d) = ∑ d, owedTo d := by
  have e (d : Dev nD) : owedTo d = 0 + tallyAt (cell d (ri (-2))) () Nx + tallyAt (cell d (ri (-3))) () Nx + tallyAt (cell d (ri (-1))) () Nx
      + tallyAt (cell d 0) () 1 + tallyAt (cell d 0) () 1 + tallyAt (cell d 0) () 1 := by
    have h3 : (tallyAt (cell d 0) () 3 : CellTallies nD τ sig Unit) = tallyAt (cell d 0) () 1 + tallyAt (cell d 0) () 1 + tallyAt (cell d 0) () 1 := by
      rw [tallyAt_add, tallyAt_add]
    unfold owedTo
    rw [h3]
    exact regroup _ _ _ _
  simp only [e, O₀, oR, Finset.sum_add_distrib, bar_dues, recv_dues]

theorem owedTo_own (d : Dev nD) (g : GSem nD τ sig) (h : owedTo d g ≠ 0) : g.1 = d.tc := by
  by_contra hn
  have hz (i : Fin 10) (n : ℕ) : (tallyAt (cell d i) () n : CellTallies nD τ sig Unit) g = 0 :=
    tallyAt_ne_cell (fun e => hn (congrArg Prod.fst e)) _ _
  apply h
  show tallyAt (cell d 0) () 3 g + (tallyAt (cell d 7) () Nx g + (tallyAt (cell d 8) () Nx g + tallyAt (cell d 9) () Nx g)) = 0
  rw [hz, hz, hz, hz]; simp only [add_zero]

omit [FloatOps F] in
theorem dues_of (c : Dev nD) : (Pipeline.launchCred O₀ c : sProp 𝕄) ⊢ dues c := by
  rw [Pipeline.launchCred_of_sum O₀ owedTo owed_sum owedTo_own c]
  unfold owedTo dues
  refine (cred_add _ _).1.trans (sep_mono_right ?_)
  refine (cred_add _ _).1.trans (sep_mono_right ?_)
  exact (cred_add _ _).1

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨HW, HL, Hc, -, HG⟩
  ihave HD := (dues_of (F := F) c) $$ Hc
  ihave HW' := (Entails.of_eq (unscopedRest0_eq c fun b => m ((c : Thread nD τ).loc b))) $$ HW
  imodintro
  unfold start waWhole wAt
  isplitl
  · isplitl [HG]; · iexact HG
    isplitl [HL]; · iexact HL
    isplitl [HD]; · iexact HD
    iexact HW'
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, HB⟩
  isplitl [Hs]; · iexact Hs
  iexact HB

theorem leave (c : Dev nD) :
    (dats m 0 c).Φ (Fin.last cfg0.N)
      ⊢ iprop((unscopedSems0 c ∗ waWhole m c) ∗ Pipeline.ownSems0 osem c ∗ Pipeline.scopedRest cfg0.spec c) := by
  rw [show (dats m 0 c).Φ (Fin.last cfg0.N) = Φ₁ m c from rfl, scopedRest0_eq]
  unfold Φ₁ bufs
  iintro ⟨Hz, HW, HB⟩
  ihave Hs := (sems_eq (F := F) c).2 $$ Hz
  icases Hs with ⟨Ho, Hu⟩
  isplitl [Hu HW]
  · isplitl [Hu]; · iexact Hu
    iexact HW
  isplitl [Ho]; · iexact Ho
  iexact HB

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_full (c : Dev nD) (w : Fin cfg0.W) : (dats m 0 c).share w = fullShare := by unfold Dat.share; split <;> rfl

/-! ## The run -/

/-- What is read off a final state beside the staged arrays: the right factor as launched, the barrier semaphore at zero. -/
def rest (c : Dev nD) (s : MemSt nD τ sig (Elt F)) : Prop :=
  s.mem ((c : Thread nD τ).loc main_arg1) = wAt m c ∧ ∀ sm : SemLoc sig, sm.isScoped .tc = false → s.sem ((c.tc : Thread nD τ), sm) = 0

theorem read_rest (c : Dev nD) (s' : Phys nD τ sig (Elt F)) :
    iprop((unscopedSems0 c ∗ waWhole m c) ∗ emp ∗ SI s') ⊢ (|={Set.univ}=> iprop(⌜rest m c s'.mem⌝ ∗ SI s') : sProp 𝕄) := by
  iintro ⟨⟨Hu, HW⟩, -, HSI⟩
  imod (Pipeline.unscopedSems0_read (X := unscopedSems0 c) (c := c) fupd_intro s') $$ [Hu HSI] with ⟨%hu, HSI⟩
  · isplitl [Hu] <;> iassumption
  unfold waWhole
  ihave %hw := (SI_pointsTo_agree (st := s') (ℓ := (c : Thread nD τ).loc main_arg1) (I := Finset.univ) (q := fullShare) (f := wAt m c)) $$ [HSI HW]
  · isplitl [HSI] <;> iassumption
  imodintro
  isplitr
  · ipureintro
    exact ⟨funext fun i => hw i (Finset.mem_univ _), hu⟩
  iexact HSI

/-- The staged arrays at the end. -/
def finalA (c : Dev nD) (w : Fin cfg0.W) : Buf (Elt F) ((cfg0.win w).arr.view.loc (c : Thread nD τ)) := (dats m 0 c).arrAt w cfg0.N

set_option maxRecDepth 8000 in
/-- Every execution ends, in a state with every semaphore at zero, the right factor as launched and the staged arrays
    at their final contents. -/
theorem run_main : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg1) = wAt m c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := share_all m)
    (hA := fun _ _ => rfl) (hpf := fun _ k => k.elim0)
    (X := start m) (Y := fun c => iprop(unscopedSems0 c ∗ waWhole m c)) (Z := fun _ => iprop(emp))
    (hX := start_of m ρ) (hin := enter m) (hout := leave m)
    (QY := rest m) (hY := read_rest m)
    (hQ := fun _ h hs => ⟨fun c => ⟨(h c).1, (h c).2.2.1⟩, sem_eq_zero hs fun c => (h c).2.2.2⟩)

end Cert.KernelIdeal.Proto

end
-- ==== Proof.KernelIdealFinal.lean ====
/-
# What the run leaves in the arrays of the program

The four arguments as they were, the result at the value that the body computes, every semaphore at zero.
-/
module

public import proofs.«01_k».proof.Proof.KernelIdealRun
public import Idealize.ShloMosaic.Lib.Pipeline.ValueKit

@[expose] public section

noncomputable section

namespace Cert.KernelIdeal.Proto

open Cert.KernelIdeal Cert.KernelIdeal.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

theorem at0 : win0_0.index (0 : Fin 1) = ![0, 0] := by decide +kernel
theorem at1 : win0_1.index (0 : Fin 1) = ![0] := by decide +kernel
theorem at2 : win0_2.index (0 : Fin 1) = ![0] := by decide +kernel
theorem at3 : win0_3.index t0_0 = ![0, 0] := by decide +kernel

/-- The block of a window over a whole array is the array: the staged left factor and scales are the arguments. -/
theorem xAt_apply (c : Dev nD) (i : S4096x1024.Idx) : xAt m c i = m ((c : Thread nD τ).loc main_arg0) i := by
  have e : (win0_0.blk (0 : Fin 1)).view.emb i = i := by blk_ext [at0]
  exact congrArg (m ((c : Thread nD τ).loc main_arg0)) e
theorem sxAt_apply (c : Dev nD) (i : S1.Idx) : sxAt m c i = m ((c : Thread nD τ).loc main_arg2) i := by
  have e : (win0_1.blk (0 : Fin 1)).view.emb i = i := by blk_ext [at1]
  exact congrArg (m ((c : Thread nD τ).loc main_arg2)) e
theorem swAt_apply (c : Dev nD) (i : S1.Idx) : swAt m c i = m ((c : Thread nD τ).loc main_arg3) i := by
  have e : (win0_2.blk (0 : Fin 1)).view.emb i = i := by blk_ext [at2]
  exact congrArg (m ((c : Thread nD τ).loc main_arg3)) e

/-- The result array ends at what the body leaves in its buffer. -/
theorem final_out (c : Dev nD) : finalA m c (3 : Fin 4) = outV m c := by
  refine (dats m 0 c).arrAt_eq_of_covers (3 : Fin 4) (outV m c) (by decide +kernel) fun t hf y => ?_
  have e : (win0_3.blk t).view.emb y = y := by rw [fin_N0 t]; blk_ext [at3]
  exact (congrArg (outV m c) e).symm

/-- Every execution ends, with each device's result at `outV`, its arguments unchanged, and every semaphore at zero. -/
theorem run_done : θ_run defs (onTc (τ := τ) (main (F := F))) (s₀ m ρ) (fun r =>
    (∀ c : Dev nD, r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c =>
    ⟨((h.1 c).1 (3 : Fin 4)).trans (final_out m c),
      ((h.1 c).1 (0 : Fin 4)).trans ((dats m 0 c).arrAt_in (0 : Fin 4) rfl _),
      (h.1 c).2,
      ((h.1 c).1 (1 : Fin 4)).trans ((dats m 0 c).arrAt_in (1 : Fin 4) rfl _),
      ((h.1 c).1 (2 : Fin 4)).trans ((dats m 0 c).arrAt_in (2 : Fin 4) rfl _)⟩, h.2⟩) (run_main m ρ)

end Cert.KernelIdeal.Proto

end
-- ==== Proof.Value.lean ====
/-
# What the kernel computes over the extended reals

Each device's result, entry by entry, is the product of the whole factors at its rows, scaled, times its logistic
function.
-/
module

public import proofs.«01_k».proof.Proof.KernelIdealFinal
public import Idealize.ShloMosaic.Lib.Pointwise
public import Idealize.ShloMosaic.Lib.Layout
public import Idealize.ShloMosaic.PureOps.Ideal

@[expose] public section

noncomputable section

namespace Cert.KernelIdeal.Proto

open Cert.KernelIdeal Cert.KernelIdeal.Gen

open Idealize.ShloMosaic
open Idealize.ShloMosaic.TcCoe

/-! ## The payloads at an entry -/

/-- One product of a received block by a block of `w`. -/
def blockDot (a : S1x1024x1024.Idx → EReal) (b : S1x1024x2048.Idx → EReal) (r : Fin 1024) (l : Fin 2048) : EReal :=
  ∑ k : Fin 1024, a (ix3 0 r k) * b (ix3 0 k l)

/-- The four steps of the running sum add one such product each, the first to nothing. -/
theorem first_at (a : S1x1024x1024.Idx → Elt Ideal .fp8e4m3) (b : S1x1024x2048.Idx → Elt Ideal .f32) (r : Fin 1024) (l : Fin 2048) :
    k0_pay5 (F := Ideal) a b (ix2 r l) = blockDot a b r l := by
  unfold blockDot
  pointwise [k0_pay5]

theorem second_at (x : S1024x2048.Idx → Elt Ideal .f32) (a : S1x1024x1024.Idx → Elt Ideal .fp8e4m3) (b : S1x1024x2048.Idx → Elt Ideal .f32) (r : Fin 1024) (l : Fin 2048) :
    k0_pay6 (F := Ideal) x a b (ix2 r l) = x (ix2 r l) + blockDot a b r l := by
  unfold blockDot
  pointwise [k0_pay6]

theorem third_at (x : S1024x2048.Idx → Elt Ideal .f32) (a : S1x1024x1024.Idx → Elt Ideal .fp8e4m3) (b : S1x1024x2048.Idx → Elt Ideal .f32) (r : Fin 1024) (l : Fin 2048) :
    k0_pay10 (F := Ideal) (k0_pay7 x) (k0_pay8 a) (k0_pay9 b) (constant S1024x2048 .f32 0x00000000#32) (ix2 r l) = x (ix2 r l) + blockDot a b r l := by
  unfold blockDot
  pointwise [k0_pay10, k0_pay7, k0_pay8, k0_pay9]

theorem fourth_at (x : S1024x2048.Idx → Elt Ideal .f32) (a : S1x1024x1024.Idx → Elt Ideal .fp8e4m3) (b : S1x1024x2048.Idx → Elt Ideal .f32) (r : Fin 1024) (l : Fin 2048) :
    k0_pay11 (F := Ideal) x a b (ix2 r l) = x (ix2 r l) + blockDot a b r l := by
  unfold blockDot
  pointwise [k0_pay11]

/-- `y` times its logistic function, as the kernel spells it. -/
def silu (y : EReal) : EReal := y * Ideal.div 1 (1 + Ideal.exp (-y))

/-- The last step: the sum scaled, times its logistic function. -/
theorem last_at (x : S1024x2048.Idx → Elt Ideal .f32) (a b : Elt Ideal .f32) (r : Fin 1024) (l : Fin 2048) :
    k0_pay12 (F := Ideal) x a b (ix2 r l) = silu (x (ix2 r l) * (a * b)) := by
  unfold silu
  pointwise [k0_pay12]
  rw [zero_sub]

/-- The logistic function's denominator is not zero, so `y` times the quotient is `y` divided. -/
theorem silu_eq (y : EReal) : silu y = Ideal.div y (1 + Ideal.exp (-y)) := by
  have h0 : (0 : EReal) ≤ Ideal.exp (-y) := by
    induction (-y) using EReal.rec with
    | bot => exact le_refl _
    | top => exact le_top
    | coe r => exact EReal.coe_nonneg.2 (Real.exp_pos r).le
  have h : (1 : EReal) + Ideal.exp (-y) ≠ 0 :=
    (lt_of_lt_of_le zero_lt_one (le_add_of_nonneg_right h0)).ne'
  unfold silu Ideal.div
  rw [if_neg h, if_neg h, one_mul]

/-! ## The blocks at an entry -/

variable (m : (ℓ : Loc nD τ sig) → Buf (Elt Ideal) ℓ)

/-- Row `r` of row block `j`. -/
def row (j : Fin 4) (r : Fin 1024) : Fin 4096 := ⟨1024 * j.val + r.val, by omega⟩

/-- Where row blocks of the two factors lie. -/
theorem xrow_at (j : Fin 4) (r k : Fin 1024) : (xrowR j).emb (ix2 r k) = (ix2 (row j r) k : S4096x1024.Idx) := by
  funext a
  fin_cases a <;> apply Fin.ext <;> simp [row, Rect.emb_apply, ix2]

theorem wrow_at (j : Fin 4) (k : Fin 1024) (l : Fin 2048) : (wrowR j).emb (ix2 k l) = (ix2 (row j k) l : S4096x2048.Idx) := by
  funext a
  fin_cases a <;> apply Fin.ext <;> simp [row, Rect.emb_apply, ix2]

/-- What device `src` sends to device `t`: over the reals, rows `t` of its left factor. -/
theorem xq_at (src t : Dev nD) (r k : Fin 1024) :
    xq m src t (ix3 0 r k) = m ((src : Thread nD τ).loc main_arg0) (ix2 (row t r) k) := by
  unfold xq
  pointwise [k0_pay1]
  unfold xrowGet
  rw [xrow_at, xAt_apply]

/-- Row block `j` of `w` as it lies in a slot. -/
theorem wBlk_at (c : Dev nD) (j : Fin 4) (k : Fin 1024) (l : Fin 2048) :
    wBlk m c j (ix3 0 k l) = m ((c : Thread nD τ).loc main_arg1) (ix2 (row j k) l) := by
  unfold wBlk
  pointwise
  unfold wrowGet
  rw [wrow_at]; rfl

/-! ## The result at an entry -/

/-- An entry of the product of the whole factors. -/
def wholeDot (x : (⟨2, ![4096, 4096]⟩ : Shape).Idx → EReal) (w : (⟨2, ![4096, 2048]⟩ : Shape).Idx → EReal) (r : Fin 4096) (l : Fin 2048) : EReal :=
  ∑ k : Fin 4096, x (ix2 r k) * w (ix2 k l)

/-- A sum over the 4096 contracted positions, block by block. -/
theorem sum_rows (f : Fin 4096 → EReal) : ∑ k, f k = ∑ d : Fin 4, ∑ k : Fin 1024, f (row d k) := by
  rw [← Fintype.sum_prod_type' (f := fun (d : Fin 4) (k : Fin 1024) => f (row d k))]
  refine (Fintype.sum_equiv (finProdFinEquiv (m := 4) (n := 1024)) _ f fun p => congrArg f (Fin.ext ?_)).symm
  show 1024 * p.1.val + p.2.val = p.2.val + 1024 * p.1.val
  exact add_comm _ _

/-- The order in which a device adds up the four blocks does not matter. -/
theorem sum_places (c : Dev nD) (f : Fin 4 → EReal) : f c + f (sh 1 c) + f (sh 3 c) + f (sh 2 c) = ∑ d, f d := by
  have e : ∑ d, f d = f (sh 0 c) + f (sh 1 c) + f (sh 2 c) + f (sh 3 c) := by
    rw [← Fin.sum_univ_four fun k => f (sh k c)]
    exact (Fintype.sum_equiv (Equiv.ofBijective (fun k => sh k c) (by revert c; decide)) _ f fun _ => rfl).symm
  rw [e, sh_zero]
  exact add_right_comm _ _ _

/-- Column block `d` of the whole left factor, and row block `d` of a whole result, at an entry. -/
theorem col_at (d : Fin 4) (x : (⟨2, ![4096, 4096]⟩ : Shape).Idx → EReal) (r : Fin 4096) (k : Fin 1024) :
    (Layout.block ⟨2, ![4096, 1024]⟩ ⟨2, ![4096, 4096]⟩ 1 4 d x) (ix2 r k) = x (ix2 r (row d k)) := by
  rw [Layout.block_apply]
  refine congrArg x ?_
  funext a
  fin_cases a
  · rfl
  · exact Fin.ext (congrArg (· + k.val) (mul_comm d.val 1024))

theorem rowBlock_at {α : Type} (d : Fin 4) (v : (⟨2, ![4096, 2048]⟩ : Shape).Idx → α) (r : Fin 1024) (l : Fin 2048) :
    (Layout.block ⟨2, ![1024, 2048]⟩ ⟨2, ![4096, 2048]⟩ 0 4 d v) (ix2 r l) = v (ix2 (row d r) l) := by
  rw [Layout.block_apply]
  refine congrArg v ?_
  funext a
  fin_cases a
  · exact Fin.ext (congrArg (· + r.val) (mul_comm d.val 1024))
  · rfl

theorem one_index (i j : (⟨1, ![1]⟩ : Shape).Idx) : i = j := by
  funext a
  fin_cases a
  exact Subsingleton.elim (α := Fin 1) (i 0) (j 0)

/-- Where the devices' left factors are the column blocks of one array and their right factors copies of one,
    device `c`'s result at an entry is that entry, of row block `c`, of the scaled product, times its logistic function. -/
theorem outV_at (c : Dev nD) (x : (⟨2, ![4096, 4096]⟩ : Shape).Idx → EReal) (w : (⟨2, ![4096, 2048]⟩ : Shape).Idx → EReal)
    (sx sw : (⟨1, ![1]⟩ : Shape).Idx → EReal)
    (hx : ∀ d : Dev nD, m ((d : Thread nD τ).loc main_arg0) = Layout.block ⟨2, ![4096, 1024]⟩ ⟨2, ![4096, 4096]⟩ 1 4 d x)
    (hw : m ((c : Thread nD τ).loc main_arg1) = w)
    (hsx : m ((c : Thread nD τ).loc main_arg2) = sx) (hsw : m ((c : Thread nD τ).loc main_arg3) = sw) (r : Fin 1024) (l : Fin 2048) :
    outV m c (ix2 r l) = silu (wholeDot x w (row c r) l * (sx (ix1 0) * sw (ix1 0))) := by
  have hb (d : Dev nD) : blockDot (xq m d c) (wBlk m c d) r l = ∑ k : Fin 1024, x (ix2 (row c r) (row d k)) * w (ix2 (row d k) l) :=
    Finset.sum_congr rfl fun k _ => by rw [xq_at, wBlk_at, hx, hw, col_at]
  have hs : acc4 m c (ix2 r l) = wholeDot x w (row c r) l := by
    unfold acc4 acc3 acc2 acc1
    rw [fourth_at, third_at, second_at, first_at]
    refine (sum_places c fun d => blockDot (xq m d c) (wBlk m c d) r l).trans ?_
    unfold wholeDot
    rw [sum_rows]
    exact Finset.sum_congr rfl fun d _ => hb d
  have e1 : el (sxAt m c) = sx (ix1 0) := by
    rw [← hsx]
    exact (sxAt_apply m c _).trans (congrArg (m ((c : Thread nD τ).loc main_arg2)) (one_index _ _))
  have e2 : el (swAt m c) = sw (ix1 0) := by
    rw [← hsw]
    exact (swAt_apply m c _).trans (congrArg (m ((c : Thread nD τ).loc main_arg3)) (one_index _ _))
  unfold outV
  rw [last_at, hs, e1, e2]

end Cert.KernelIdeal.Proto

end
-- ==== Proof.Reference.lean ====
/-
# What the two references compute over the extended reals, and where the mask holds

An entry of either is the scaled product at it, `y`, divided by one plus an exponential: of `-y` in the unclipped
reference, of minus `y` kept within ±60 in the other. Where the mask holds, `y` is within ±60, so the two agree.
-/
module

public import proofs.«01_k».proof.Proof.Value
public import proofs.«01_k».proof.Proof.Gen.ReferenceIdeal.Run
public import proofs.«01_k».proof.Proof.Gen.UnclippedIdeal.Run
public import proofs.«01_k».proof.Proof.Gen.On_inside

@[expose] public section

noncomputable section

namespace Cert.References

open Idealize.ShloMosaic
open Cert.KernelIdeal.Proto (wholeDot silu silu_eq row rowBlock_at outV_at)

variable (x : (⟨2, ![4096, 4096]⟩ : Shape).Idx → EReal) (w : (⟨2, ![4096, 2048]⟩ : Shape).Idx → EReal)
  (sx sw : (⟨1, ![1]⟩ : Shape).Idx → EReal)

/-- Two tests both hold where the conjunction of their bits is set. -/
theorem both_of (p q : Prop) [Decidable p] [Decidable q] (h : IntOp.andi (BitVec.ofBool (decide p)) (BitVec.ofBool (decide q)) = 1#1) : p ∧ q := by
  by_cases hp : p <;> by_cases hq : q <;> simp only [hp, hq, decide_true, decide_false] at h
  · exact ⟨hp, hq⟩
  all_goals exact absurd h (by decide)

/-- The scaled product at an entry. -/
def yAt (r : Fin 4096) (l : Fin 2048) : EReal := wholeDot x w r l * (sx (ix1 0) * sw (ix1 0))

section Unclipped
open Cert.UnclippedIdeal Cert.UnclippedIdeal.Gen
/-- The unclipped reference as a function of its arguments. -/
def unclipped (x : FVec Ideal S4096x4096 .f32) (w : FVec Ideal S4096x2048 .f32) (sx sw : FVec Ideal S1 .f32) : FVec Ideal S4096x2048 .f32 :=
  Host.divf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf sx sw))))
    (addf (broadcastInDim S4096x2048 ![] bcast_S_S4096x2048 (constant S_ .f32 0x3F800000#32))
      (Host.exp (Host.negf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf sx sw)))))))

/-- An entry of the unclipped reference. -/
theorem unclipped_at (r : Fin 4096) (l : Fin 2048) :
    unclipped x w sx sw (ix2 r l) = silu (yAt x w sx sw r l) := by
  rw [silu_eq]
  unfold yAt wholeDot
  pointwise [unclipped]
end Unclipped

section Clipped
open Cert.ReferenceIdeal Cert.ReferenceIdeal.Gen
/-- The reference as a function of its arguments. -/
def reference (x : FVec Ideal S4096x4096 .f32) (w : FVec Ideal S4096x2048 .f32) (sx sw : FVec Ideal S1 .f32) : FVec Ideal S4096x2048 .f32 :=
  Host.divf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf sx sw))))
    (addf (broadcastInDim S4096x2048 ![] bcast_S_S4096x2048 (constant S_ .f32 0x3F800000#32))
      (Host.exp (Host.negf (minimumf (broadcastInDim S4096x2048 ![] bcast_S_S4096x2048 (id (constant S_ .f32 0x42700000#32)))
        (maximumf (broadcastInDim S4096x2048 ![] bcast_S_S4096x2048 (id (constant S_ .f32 0xC2700000#32)))
          (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf sx sw)))))))))

/-- An entry of the reference. -/
theorem reference_at (r : Fin 4096) (l : Fin 2048) :
    reference x w sx sw (ix2 r l)
      = Ideal.div (yAt x w sx sw r l) (1 + Ideal.exp (-min (Ideal.ofBits .f32 0x42700000#32) (max (Ideal.ofBits .f32 0xC2700000#32) (yAt x w sx sw r l)))) := by
  unfold yAt wholeDot
  pointwise [reference, id_eq]
end Clipped

/-- Where the mask holds, the scaled product is within the two bounds. -/
theorem inside_at (r : Fin 4096) (l : Fin 2048) (h : Cert.On_inside.fn (F := Ideal) x w sx sw (ix2 r l) = 1#1) :
    Ideal.ofBits .f32 0xC2700000#32 ≤ yAt x w sx sw r l ∧ yAt x w sx sw r l ≤ Ideal.ofBits .f32 0x42700000#32 := by
  unfold yAt wholeDot
  pointwise [Cert.On_inside.fn] at h
  exact both_of _ _ h

/-- Where the mask holds, the reference is the unclipped one. -/
theorem reference_inside (r : Fin 4096) (l : Fin 2048) (h : Cert.On_inside.fn (F := Ideal) x w sx sw (ix2 r l) = 1#1) :
    reference x w sx sw (ix2 r l) = silu (yAt x w sx sw r l) := by
  obtain ⟨h1, h2⟩ := inside_at x w sx sw r l h
  rw [reference_at, silu_eq, max_eq_right h1, min_eq_right h2]

/-! ## A device's result is its row block -/

section Blocks
open Cert.KernelIdeal
open Idealize.ShloMosaic.TcCoe
open Cert.KernelIdeal.Proto (outV)

variable (m : (ℓ : Loc nD τ sig) → Buf (Elt Ideal) ℓ) (c : Dev nD)

/-- Device `c`'s result is row block `c` of the unclipped reference's. -/
theorem out_unclipped
    (hx : ∀ d : Dev nD, m ((d : Thread nD τ).loc main_arg0) = Layout.block ⟨2, ![4096, 1024]⟩ ⟨2, ![4096, 4096]⟩ 1 4 d x)
    (hw : m ((c : Thread nD τ).loc main_arg1) = w)
    (hsx : m ((c : Thread nD τ).loc main_arg2) = sx) (hsw : m ((c : Thread nD τ).loc main_arg3) = sw) :
    outV m c = (Layout.block ⟨2, ![1024, 2048]⟩ ⟨2, ![4096, 2048]⟩ 0 4 c (unclipped x w sx sw) : S1024x2048.Idx → EReal) := by
  funext i
  obtain ⟨r, l, rfl⟩ : ∃ (r : Fin 1024) (l : Fin 2048), i = ix2 r l := ⟨i 0, i 1, eq_ix2 i⟩
  rw [rowBlock_at, unclipped_at]
  exact outV_at m c x w sx sw hx hw hsx hsw r l

/-- Where row block `c` of the mask holds, device `c`'s result is row block `c` of the reference's. -/
theorem out_inside
    (hx : ∀ d : Dev nD, m ((d : Thread nD τ).loc main_arg0) = Layout.block ⟨2, ![4096, 1024]⟩ ⟨2, ![4096, 4096]⟩ 1 4 d x)
    (hw : m ((c : Thread nD τ).loc main_arg1) = w)
    (hsx : m ((c : Thread nD τ).loc main_arg2) = sx) (hsw : m ((c : Thread nD τ).loc main_arg3) = sw) (i : S1024x2048.Idx)
    (hi : (Layout.block ⟨2, ![1024, 2048]⟩ ⟨2, ![4096, 2048]⟩ 0 4 c (Cert.On_inside.fn (F := Ideal) x w sx sw)) i = 1#1) :
    outV m c i = (Layout.block ⟨2, ![1024, 2048]⟩ ⟨2, ![4096, 2048]⟩ 0 4 c (reference x w sx sw) : S1024x2048.Idx → EReal) i := by
  obtain ⟨r, l, rfl⟩ : ∃ (r : Fin 1024) (l : Fin 2048), i = ix2 r l := ⟨i 0, i 1, eq_ix2 i⟩
  rw [rowBlock_at] at hi
  rw [rowBlock_at, reference_inside x w sx sw _ _ hi]
  exact outV_at m c x w sx sw hx hw hsx hsw r l

end Blocks

end Cert.References

end
-- ==== Proof.lean ====
/-
# The certificate

The kernel's frame, over float words and over the extended reals, is its run (`run_done`) with the result's
value dropped. Its value: each device's result is, entry by entry, the scaled product of the whole factors times its
logistic function (`outV_at`), which is what the unclipped reference computes everywhere, and what the reference, whose
exponent is kept within ±60, computes where the scaled product is within ±60.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_inside
public import proofs.«01_k».proof.Proof.KernelFinal
public import proofs.«01_k».proof.Proof.KernelIdealFinal
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The kernel ends with its arguments unchanged and every semaphore at zero. -/
theorem frame_kernel : Cert.quiescent_Kernel (hKernel := Cert.Kernel.Gen.facts) := fun m ρ _ =>
  (θ_run (Cert.Kernel.defs (F := Bits)) _ _).mono (fun _ h => ⟨fun c => (h.1 c).2, h.2⟩) (Cert.Kernel.Proto.run_done m ρ)

/-- So does the kernel over the extended reals. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.KernelIdeal.Proto.run_done m ρ)

/-- The reference ends with its arguments unchanged; it has no semaphores. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- So does the unclipped reference. -/
theorem frame_unclipped : Cert.quiescent_UnclippedIdeal (hUnclippedIdeal := Cert.UnclippedIdeal.Gen.facts) := fun m ρ _ =>
  (θ_run (Cert.UnclippedIdeal.defs (F := Ideal)) _ _).mono (fun r h => ⟨fun c => (h c).2, sem_eq_zero_of_no_sems (by decide) r.2⟩)
    (Cert.UnclippedIdeal.Value.run (F := Ideal) m ρ)

section Values

open Cert.References

/-- Each device's result is its row block of the unclipped reference's. -/
theorem value_unclipped : Cert.algebraic_KernelIdeal_UnclippedIdeal (hKernelIdeal := Cert.KernelIdeal.Gen.facts) (hUnclippedIdeal := Cert.UnclippedIdeal.Gen.facts) := by
  intro m ρ m' ρ' _ hargs
  refine ⟨unclipped (m' (((0 : Dev Cert.UnclippedIdeal.nD).tc : Thread Cert.UnclippedIdeal.nD Cert.UnclippedIdeal.τ).loc Cert.UnclippedIdeal.main_arg0)) (m' (((0 : Dev Cert.UnclippedIdeal.nD).tc : Thread Cert.UnclippedIdeal.nD Cert.UnclippedIdeal.τ).loc Cert.UnclippedIdeal.main_arg1)) (m' (((0 : Dev Cert.UnclippedIdeal.nD).tc : Thread Cert.UnclippedIdeal.nD Cert.UnclippedIdeal.τ).loc Cert.UnclippedIdeal.main_arg2)) (m' (((0 : Dev Cert.UnclippedIdeal.nD).tc : Thread Cert.UnclippedIdeal.nD Cert.UnclippedIdeal.τ).loc Cert.UnclippedIdeal.main_arg3)), ?_, ?_⟩
  · exact (θ_run (Cert.KernelIdeal.defs (F := Ideal)) _ _).mono (fun _ h c => ⟨(h.1 c).1.trans
      (out_unclipped _ _ _ _ m c (fun d => (hargs d).1) (hargs c).2.1 (hargs c).2.2.1 (hargs c).2.2.2), (h.1 c).2⟩) (Cert.KernelIdeal.Proto.run_done m ρ)
  · exact (θ_run (Cert.UnclippedIdeal.defs (F := Ideal)) _ _).mono (fun _ h => h 0) (Cert.UnclippedIdeal.Value.run (F := Ideal) m' ρ')

/-- Each device's result is, where the mask holds, its row block of the reference's. -/
theorem value_inside : Cert.algebraic_KernelIdeal_ReferenceIdeal_on_inside (hKernelIdeal := Cert.KernelIdeal.Gen.facts)
    (hReferenceIdeal := Cert.ReferenceIdeal.Gen.facts) (hOn_inside := Cert.On_inside.Gen.facts) := by
  intro m ρ m' ρ' _ hargs
  refine ⟨reference (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)), ?_, ?_⟩
  · exact (θ_run (Cert.KernelIdeal.defs (F := Ideal)) _ _).mono (fun _ h c => ⟨fun i hi => (congrFun (h.1 c).1 i).trans
      (out_inside _ _ _ _ m c (fun d => (hargs d).1) (hargs c).2.1 (hargs c).2.2.1 (hargs c).2.2.2 i hi), (h.1 c).2⟩) (Cert.KernelIdeal.Proto.run_done m ρ)
  · exact (θ_run (Cert.ReferenceIdeal.defs (F := Ideal)) _ _).mono (fun _ h => ⟨fun i _ => congrFun (h 0).1 i, (h 0).2⟩)
      (Cert.ReferenceIdeal.Value.run (F := Ideal) m' ρ')

end Values

/-- All the claims, under the programs' side conditions. -/
theorem claim : Cert.Claim :=
  ⟨Cert.Kernel.Gen.facts, Cert.KernelIdeal.Gen.facts, Cert.ReferenceIdeal.Gen.facts, Cert.UnclippedIdeal.Gen.facts, Cert.On_inside.Gen.facts,
    frame_kernel, frame_ideal, frame_reference, frame_unclipped, trivial, value_inside, value_unclipped⟩

end Cert.Proof

end
